-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x2560 : Shape := ⟨3, ![6, 3072, 2560]⟩
abbrev S2560x20480 : Shape := ⟨2, ![2560, 20480]⟩
abbrev S20480 : Shape := ⟨1, ![20480]⟩
abbrev S1x20480 : Shape := ⟨2, ![1, 20480]⟩
abbrev S18432x2560 : Shape := ⟨2, ![18432, 2560]⟩
abbrev S18432x10240 : Shape := ⟨2, ![18432, 10240]⟩
abbrev S18432x80 : Shape := ⟨2, ![18432, 80]⟩
abbrev S18432x1 : Shape := ⟨2, ![18432, 1]⟩
abbrev S1024x2560 : Shape := ⟨2, ![1024, 2560]⟩
abbrev S2560x512 : Shape := ⟨2, ![2560, 512]⟩
abbrev S1x512 : Shape := ⟨2, ![1, 512]⟩
abbrev S1024x512 : Shape := ⟨2, ![1024, 512]⟩
abbrev S1024x80 : Shape := ⟨2, ![1024, 80]⟩
abbrev S1024x1 : Shape := ⟨2, ![1024, 1]⟩
abbrev S64x2560 : Shape := ⟨2, ![64, 2560]⟩
abbrev S64 : Shape := ⟨1, ![64]⟩
abbrev S64x1 : Shape := ⟨2, ![64, 1]⟩
abbrev S256x80 : Shape := ⟨2, ![256, 80]⟩
abbrev S256x2560 : Shape := ⟨2, ![256, 2560]⟩
abbrev S256x1 : Shape := ⟨2, ![256, 1]⟩
abbrev S2560x256 : Shape := ⟨2, ![2560, 256]⟩
abbrev S256x256 : Shape := ⟨2, ![256, 256]⟩
abbrev S256x128 : Shape := ⟨2, ![256, 128]⟩
abbrev S1x128 : Shape := ⟨2, ![1, 128]⟩
abbrev S256 : Shape := ⟨1, ![256]⟩

abbrev nBuf : Space → Nat
  | .hbm => 9
  | .vmem => 18
  | .smem => 0
  | _ => 0

abbrev bufTy : (tb : Table) → Fin (tcTables nBuf tb) → BufTy
  | .hbm, ⟨0, _⟩ => ⟨S6x3072x2560, .bf16⟩
  | .hbm, ⟨1, _⟩ => ⟨S2560x20480, .fp8e4m3⟩
  | .hbm, ⟨2, _⟩ => ⟨S20480, .f32⟩
  | .hbm, ⟨3, _⟩ => ⟨S1x20480, .f32⟩
  | .hbm, ⟨4, _⟩ => ⟨S18432x2560, .bf16⟩
  | .hbm, ⟨5, _⟩ => ⟨S18432x10240, .fp8e4m3⟩
  | .hbm, ⟨6, _⟩ => ⟨S18432x80, .f32⟩
  | .hbm, ⟨7, _⟩ => ⟨S18432x2560, .fp8e4m3⟩
  | .hbm, ⟨8, _⟩ => ⟨S18432x1, .f32⟩
  | .local _ .vmem, ⟨0, _⟩ => ⟨S1024x2560, .bf16⟩
  | .local _ .vmem, ⟨1, _⟩ => ⟨S1024x2560, .bf16⟩
  | .local _ .vmem, ⟨2, _⟩ => ⟨S2560x512, .fp8e4m3⟩
  | .local _ .vmem, ⟨3, _⟩ => ⟨S2560x512, .fp8e4m3⟩
  | .local _ .vmem, ⟨4, _⟩ => ⟨S2560x512, .fp8e4m3⟩
  | .local _ .vmem, ⟨5, _⟩ => ⟨S2560x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .fp8e4m3⟩
  | .local _ .vmem, ⟨11, _⟩ => ⟨S1024x512, .fp8e4m3⟩
  | .local _ .vmem, ⟨12, _⟩ => ⟨S1024x80, .f32⟩
  | .local _ .vmem, ⟨13, _⟩ => ⟨S1024x80, .f32⟩
  | .local _ .vmem, ⟨14, _⟩ => ⟨S1024x2560, .fp8e4m3⟩
  | .local _ .vmem, ⟨15, _⟩ => ⟨S1024x2560, .fp8e4m3⟩
  | .local _ .vmem, ⟨16, _⟩ => ⟨S1024x1, .f32⟩
  | .local _ .vmem, ⟨17, _⟩ => ⟨S1024x1, .f32⟩
  | _, _ => ⟨S6x3072x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![18, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_620 : BitVec 32 := 0#32
  let c16_i32 : BitVec 32 := 16#32
  let v1764 : BitVec 32 := Scalar.addi c0_i32_620 c16_i32
  let c1_i32_621 : BitVec 32 := 1#32
  ⟨c0_i32_620, v1764, c1_i32_621⟩
def k0_mult1 (k0_t1 : Fin k0_t1_loop.trips) : BitVec 32 :=
  let c0_i32_620 : BitVec 32 := 0#32
  let c1_i32_621 : BitVec 32 := 1#32
  let arg11 : BitVec 32 := Scf.iv c0_i32_620 c1_i32_621 k0_t1
  let c64_i32 : BitVec 32 := 64#32
  let v1767 : BitVec 32 := Scalar.muli arg11 c64_i32
  v1767
def k0_off1 (k0_t1 : Fin k0_t1_loop.trips) : Fin 2 → Nat :=
  let c0_i32_620 : BitVec 32 := 0#32
  let c1_i32_621 : BitVec 32 := 1#32
  let arg11 : BitVec 32 := Scf.iv c0_i32_620 c1_i32_621 k0_t1
  let c64_i32 : BitVec 32 := 64#32
  let v1767 : BitVec 32 := Scalar.muli arg11 c64_i32
  let v1768 : BitVec 32 := v1767
  let v1769 : Index := Scalar.indexCast v1768
  let c0_626 : Index := 0#32
  ![v1769.toNat, 0]
def k0_off2 (k0_t1 : Fin k0_t1_loop.trips) : Fin 2 → Nat :=
  let c0_i32_620 : BitVec 32 := 0#32
  let c1_i32_621 : BitVec 32 := 1#32
  let arg11 : BitVec 32 := Scf.iv c0_i32_620 c1_i32_621 k0_t1
  let c64_i32 : BitVec 32 := 64#32
  let v1767 : BitVec 32 := Scalar.muli arg11 c64_i32
  let v1768 : BitVec 32 := v1767
  let v1842 : Index := Scalar.indexCast v1768
  let c0_647 : Index := 0#32
  ![v1842.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2560x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2560 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S6x3072x2560 : Shape := ⟨3, ![6, 3072, 2560]⟩
abbrev S2560x20480 : Shape := ⟨2, ![2560, 20480]⟩
abbrev S20480 : Shape := ⟨1, ![20480]⟩
abbrev S18432x2560 : Shape := ⟨2, ![18432, 2560]⟩
abbrev S1x20480 : Shape := ⟨2, ![1, 20480]⟩
abbrev S18432x10240 : Shape := ⟨2, ![18432, 10240]⟩
abbrev S18432x80 : Shape := ⟨2, ![18432, 80]⟩
abbrev S18432x1 : Shape := ⟨2, ![18432, 1]⟩
abbrev S18432 : Shape := ⟨1, ![18432]⟩
abbrev S18432x20480 : Shape := ⟨2, ![18432, 20480]⟩
abbrev S18432x80x128 : Shape := ⟨3, ![18432, 80, 128]⟩
abbrev S18432x80x1 : Shape := ⟨3, ![18432, 80, 1]⟩

abbrev nBuf : Space → Nat
  | .hbm => 10
  | .vmem => 7
  | .smem => 0
  | _ => 0

abbrev bufTy : (tb : Table) → Fin (tcTables nBuf tb) → BufTy
  | .hbm, ⟨0, _⟩ => ⟨S6x3072x2560, .bf16⟩
  | .hbm, ⟨1, _⟩ => ⟨S2560x20480, .fp8e4m3⟩
  | .hbm, ⟨2, _⟩ => ⟨S20480, .f32⟩
  | .hbm, ⟨3, _⟩ => ⟨S6x3072x2560, .f32⟩
  | .hbm, ⟨4, _⟩ => ⟨S18432x2560, .f32⟩
  | .hbm, ⟨5, _⟩ => ⟨S1x20480, .f32⟩
  | .hbm, ⟨6, _⟩ => ⟨S18432x10240, .fp8e4m3⟩
  | .hbm, ⟨7, _⟩ => ⟨S18432x80, .f32⟩
  | .hbm, ⟨8, _⟩ => ⟨S18432x2560, .fp8e4m3⟩
  | .hbm, ⟨9, _⟩ => ⟨S18432x1, .f32⟩
  | .local _ .vmem, ⟨0, _⟩ => ⟨S18432x2560, .f32⟩
  | .local _ .vmem, ⟨1, _⟩ => ⟨S2560x20480, .fp8e4m3⟩
  | .local _ .vmem, ⟨2, _⟩ => ⟨S1x20480, .f32⟩
  | .local _ .vmem, ⟨3, _⟩ => ⟨S18432x10240, .fp8e4m3⟩
  | .local _ .vmem, ⟨4, _⟩ => ⟨S18432x80, .f32⟩
  | .local _ .vmem, ⟨5, _⟩ => ⟨S18432x2560, .fp8e4m3⟩
  | .local _ .vmem, ⟨6, _⟩ => ⟨S18432x1, .f32⟩
  | _, _ => ⟨S6x3072x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S18432x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x20480 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x10240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KPoints.lean ====
/- The kernel's body at a grid point: its one branch condition, the windows that are never idle, and the staging
   memrefs as the pipeline passes them. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 20) — by arithmetic of the point. -/
theorem hcond0_0 : ∀ t : Fin cfg0.N, cond0_0 (grid0.coords t) ↔ t.val % 20 = 0 :=
  (fun t => by
    have ht : t.val < 360 := Nat.lt_of_lt_of_eq t.isLt N_0
    have e0 : (grid0.coords t 0).val = t.val / 20 % 18 := Pipeline.Grid.coords_val t 0 (by decide) rfl
    have e1 : (grid0.coords t 1).val = t.val / 1 % 20 := Pipeline.Grid.coords_val t 1 (by decide) rfl
    simp only [cond0_0, k0_cond1, e0, e1]
    word_cmp
   : ∀ t : Fin grid0.N, cond0_0 (grid0.coords t) ↔ t.val % 20 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Windows 5 and 6, the codes and scales of `h`, are stored at every point. -/
theorem liveAt0_5 : ∀ t : Fin cfg0.N, cfg0.idle 5 (grid0.coords t) = false := fun _ => rfl
theorem liveAt0_6 : ∀ t : Fin cfg0.N, cfg0.idle 6 (grid0.coords t) = false := fun _ => rfl

/-! ## The kernel body on any staging memrefs: a subtype the run finds -/

/-- Each window's current staging memref at point `t`, spelled as the pipeline passes it (`bodyAt0`), and its wholeness. -/
abbrev ms0_0 (t : Fin cfg0.N) : Memref sig .tc .vmem S1024x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x80 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2560 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)

end Cert.Kernel.Gen

end
-- ==== Proof.KRunA.lean ====
/- The body at the points of column 0, run once and for all. -/
module

public import proofs.«01_k».proof.Proof.KPoints
public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body at a point of column 0: the quantising loop runs, the scales' block is zeroed, and then every
    group of 128 columns is stored. The lists of stores are the run's own finds, one list per written window. -/
@[irreducible] def runA (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    Σ' (L5 : List (View.Piece (Elt F) S1024x512 .fp8e4m3)) , Σ' (L7 : List (View.Piece (Elt F) S1024x2560 .fp8e4m3)) , Σ' (L8 : List (View.Piece (Elt F) S1024x1 .f32)) , { L6 : List (View.Piece (Elt F) S1024x80 .f32) // ∀ (E : Set ℕ) (f7 : BufTy.Contents (Elt F) arg7.view.ty) (K : PUnit → sProp 𝕄),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} (arg7.view.writes (Elt F) f7 L5)) ∗ (arg8.view.loc (c : Thread nD τ) ↦[arg8.view.set]{fullShare} (arg8.view.writes (Elt F) f8 L6)) ∗ (arg9.view.loc (c : Thread nD τ) ↦[arg9.view.set]{fullShare} (arg9.view.writes (Elt F) f9 L7)) ∗ (arg10.view.loc (c : Thread nD τ) ↦[arg10.view.set]{fullShare} (arg10.view.writes (Elt F) f10 L8))) -∗ K ⟨⟩))
      ⊢ wp frame (wpE (defs₀ (F := F)) Variants.none c none) E (cc0_geglu_gate_up i arg2 harg2 arg3 harg3 arg4 harg4 arg5 harg5 arg6 harg6 arg7 harg7 arg8 harg8 arg9 harg9 arg10 harg10) K } := by
  refine ⟨?_, ?_, ?_, ?_, fun E f7 K => ?run⟩
  case run =>
    simp only [cc0_geglu_gate_up_eq_skeleton]; unfold cc0_geglu_gate_up_skel
    simp only [k0_part42_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    iintro ⟨H2, H3, H4, H5, H6, H7, H8, H9, H10, Hk⟩
    sl_exec (disch := first | sl_exact hc0)
    sl_step
    iapply Hk
    sl_close

end Cert.Kernel.Gen

end
-- ==== Proof.KRunB.lean ====
/- The body at the points of the later columns, run once and for all. -/
module

public import proofs.«01_k».proof.Proof.KPoints

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body at a point of a later column: only the groups are stored. The two lists of stores (codes and
    scales) are the run's own finds, as functions of what the windows hold. -/
@[irreducible] def runB (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : ¬cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    Σ' (L5 : List (View.Piece (Elt F) S1024x512 .fp8e4m3)) , { L6 : List (View.Piece (Elt F) S1024x80 .f32) // ∀ (E : Set ℕ) (f7 : BufTy.Contents (Elt F) arg7.view.ty) (K : PUnit → sProp 𝕄),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} (arg7.view.writes (Elt F) f7 L5)) ∗ (arg8.view.loc (c : Thread nD τ) ↦[arg8.view.set]{fullShare} (arg8.view.writes (Elt F) f8 L6)) ∗ (arg9.view.loc (c : Thread nD τ) ↦[arg9.view.set]{fullShare} f9) ∗ (arg10.view.loc (c : Thread nD τ) ↦[arg10.view.set]{fullShare} f10)) -∗ K ⟨⟩))
      ⊢ wp frame (wpE (defs₀ (F := F)) Variants.none c none) E (cc0_geglu_gate_up i arg2 harg2 arg3 harg3 arg4 harg4 arg5 harg5 arg6 harg6 arg7 harg7 arg8 harg8 arg9 harg9 arg10 harg10) K } := by
  refine ⟨?_, ?_, fun E f7 K => ?run⟩
  case run =>
    simp only [cc0_geglu_gate_up_eq_skeleton]; unfold cc0_geglu_gate_up_skel
    simp only [k0_part42_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    iintro ⟨H2, H3, H4, H5, H6, H7, H8, H9, H10, Hk⟩
    sl_exec (disch := first | sl_exact hc0)
    sl_step
    iapply Hk
    sl_close

end Cert.Kernel.Gen

end
-- ==== Proof.KFrame.lean ====
/- The kernel's frame at any floats: what the results hold is not named. -/
module

public import proofs.«01_k».proof.Proof.KRunA
public import proofs.«01_k».proof.Proof.KRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results' windows, of whose contents nothing is said. -/
def forgets0 : Fin 9 → Bool := fun w => w.val == 5 || w.val == 6 || w.val == 7 || w.val == 8

/-- The proof data: the inputs at their blocks, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X))

/-- The body at any point, from any contents of the results' blocks to some contents. -/
theorem body_any (c : Dev nD) (E : Set ℕ) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole)
    (X2 : Vec F S1024x2560 .bf16) (X3 : Vec F S2560x512 .fp8e4m3) (X4 : Vec F S2560x512 .fp8e4m3) (X5 : Vec F S1x512 .f32) (X6 : Vec F S1x512 .f32) (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_geglu_gate_up i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, Hk⟩
  subst h2 h3 h4 h5 h6
  by_cases hc0 : cond0_0 i
  · iapply ((runA (F := F) c i arg2 harg2 arg3 harg3 arg4 harg4 arg5 harg5 arg6 harg6 arg7 harg7 arg8 harg8 arg9 harg9 arg10 harg10 hc0 f2 f3 f4 f5 f6 f8 f9 f10).2.2.2.2 E f7 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    iapply Hk
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    iexists _; iexists _; isplitr
    swap; · iexact H10
    ipureintro; rfl
  · iapply ((runB (F := F) c i arg2 harg2 arg3 harg3 arg4 harg4 arg5 harg5 arg6 harg6 arg7 harg7 arg8 harg8 arg9 harg9 arg10 harg10 hc0 f2 f3 f4 f5 f6 f8 f9 f10).2.2 E f7 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    iapply Hk
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    iexists _; iexists _; isplitr
    swap; · iexact H10
    ipureintro; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, H5, H6, H7, H8⟩
  iapply (body_any c Set.univ (grid0.coords t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: the inputs' arrays end at what the proof data says, and every semaphore at zero. -/
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (((dats m 0 c).toRForget_arrAt_iff (w := 2) (fgt := forgets0) (by decide) _ _).mp ((h.1 c).1 2)).trans
        (((dats m 0 c).arrAt_in 2 rfl _).trans ((A_eq m c 2).trans (V_main_arg1 m c))),
      ((h.1 c).2 main_arg2 (Pipeline.mem_restRefs_of main_arg2 (by decide) (by decide))).trans (V_main_arg2 m c)⟩, h.2⟩)
    (run_main_quiescent m ρ)

end Cert.Kernel.Gen

end
-- ==== Proof.Points.lean ====
/- The kernel's body at a grid point: its one branch condition, the windows that are never idle, and the staging
   memrefs as the pipeline passes them. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 20) — by arithmetic of the point. -/
theorem hcond0_0 : ∀ t : Fin cfg0.N, cond0_0 (grid0.coords t) ↔ t.val % 20 = 0 :=
  (fun t => by
    have ht : t.val < 360 := Nat.lt_of_lt_of_eq t.isLt N_0
    have e0 : (grid0.coords t 0).val = t.val / 20 % 18 := Pipeline.Grid.coords_val t 0 (by decide) rfl
    have e1 : (grid0.coords t 1).val = t.val / 1 % 20 := Pipeline.Grid.coords_val t 1 (by decide) rfl
    simp only [cond0_0, k0_cond1, e0, e1]
    word_cmp
   : ∀ t : Fin grid0.N, cond0_0 (grid0.coords t) ↔ t.val % 20 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Windows 5 and 6, the codes and scales of `h`, are stored at every point. -/
theorem liveAt0_5 : ∀ t : Fin cfg0.N, cfg0.idle 5 (grid0.coords t) = false := fun _ => rfl
theorem liveAt0_6 : ∀ t : Fin cfg0.N, cfg0.idle 6 (grid0.coords t) = false := fun _ => rfl

/-! ## The kernel body on any staging memrefs: a subtype the run finds -/

/-- Each window's current staging memref at point `t`, spelled as the pipeline passes it (`bodyAt0`), and its wholeness. -/
abbrev ms0_0 (t : Fin cfg0.N) : Memref sig .tc .vmem S1024x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x80 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2560 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)

end Cert.KernelIdeal.Gen

end
-- ==== Proof.Group.lean ====
/- One group of 128 columns of the kernel's body, as whole-vector functions: the sixteen groups of a grid point are these
   functions at sixteen places. -/
module

public import proofs.«01_k».proof.Proof.Gen.KernelIdeal.Skeleton

@[expose] public section

noncomputable section

namespace Cert.KernelIdeal.Gen

open Idealize.ShloMosaic

variable {F : FTy → Type} [FloatOps F]

/-- One rung of the exponent ladder: the bit `b` is added to the pattern `p` where the number `p + b` spells does not
    exceed `v`. -/
def ladStep {s : Shape} (v : FVec F s .f32) (b : BitVec 32) (p : IVec s 32) : IVec s 32 :=
  select (cmpf .oge v (bitcastToFloat .f32 (addi p (broadcast s b)))) (addi p (broadcast s b)) p

/-- The exponent field of `v`, found bit by bit from the highest. -/
def ladder {s : Shape} (v : FVec F s .f32) : IVec s 32 :=
  ladStep v 8388608#32 <| ladStep v 16777216#32 <| ladStep v 33554432#32 <| ladStep v 67108864#32 <|
  ladStep v 134217728#32 <| ladStep v 268435456#32 <| ladStep v 536870912#32 <| ladStep v 1073741824#32 <|
  broadcast s 0#32

/-- The bits of the scale of the amplitude `a`. -/
def scaleBits {s : Shape} (a : FVec F s .f32) : IVec s 32 :=
  let r := addi (select (cmpf .ole a (broadcast s (Scalar.ofBits .f32 0x7F7FFFFF#32)))
    (ladder (mulf a (broadcast s (Scalar.ofBits .f32 0x3B124925#32)))) (broadcast s 2139095040#32)) (broadcast s 8388608#32)
  select (cmpi .sgt r (broadcast s 8388608#32)) r (broadcast s 1065353216#32)

/-- The scale of the amplitude `a`. -/
def vScale {s : Shape} (a : FVec F s .f32) : FVec F s .f32 := bitcastToFloat .f32 (scaleBits a)

/-- The reciprocal of the scale of the amplitude `a`. -/
def vInv {s : Shape} (a : FVec F s .f32) : FVec F s .f32 :=
  bitcastToFloat .f32 (subi (broadcast s 2130706432#32) (scaleBits a))

/-- The product of 256 rows of codes with 256 columns of weights. -/
def gAcc (x : Vec F S256x2560 .fp8e4m3) (w : Vec F S2560x256 .fp8e4m3) : FVec F S256x256 .f32 :=
  matmul dot_S256x2560_S2560x256_S256x256_1_0_0_1_n_n none (shapeCast S256x2560 x shapeCasts_S256x2560_S256x2560) w
    (constant S256x256 .f32 0x00000000#32)

/-- 128 of the product's columns, scaled by the rows' and the columns' scales. -/
def gScaled (off : Fin 2 → ℕ) (hs : S256x256.Slices off S256x128) (acc : FVec F S256x256 .f32) (xs : Vec F S256x1 .f32)
    (ws : Vec F S1x128 .f32) : FVec F S256x128 .f32 :=
  mulf (mulf (extractStridedSlice S256x128 off acc hs)
      (broadcastTo S256x128 (shapeCast S256x1 xs shapeCasts_S256x1_S256x1) broadcasts_S256x1_S256x128))
    (broadcastTo S256x128 (shapeCast S1x128 ws shapeCasts_S1x128_S1x128) broadcasts_S1x128_S256x128)

/-- The gated activation. -/
def gH (g u : FVec F S256x128 .f32) : FVec F S256x128 .f32 :=
  mulf (mulf g (mulf (broadcast S256x128 (Scalar.ofBits .f32 0x3F000000#32))
    (addf (broadcast S256x128 (Scalar.ofBits .f32 0x3F800000#32))
      (tanh (mulf (broadcast S256x128 (Scalar.ofBits .f32 0x3F4C422A#32))
        (addf g (mulf (broadcast S256x128 (Scalar.ofBits .f32 0x3D372713#32)) (mulf (mulf g g) g)))))))) u

/-- The rows' amplitudes of a group. -/
def gAmax (h : FVec F S256x128 .f32) : FVec F S256x1 .f32 :=
  shapeCast S256x1 (multiReduction .maximumf [1] S256 (absf h) 0xFF800000#32 reduces_S256x128_S256 (.inl rfl) rfl)
    shapeCasts_S256_S256x1

/-- The codes of a group. -/
def gCodes (h : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf h (broadcastTo S256x128 (vInv (gAmax h)) broadcasts_S256x1_S256x128)))) bitsLt_fp8e4m3_f32

/-- The scales' block with the lane `n` set to the scales of a group. -/
def gSel (n : BitVec 32) (h : FVec F S256x128 .f32) (old : Vec F S256x80 .f32) : FVec F S256x80 .f32 :=
  select (cmpi .eq (iota .tc S256x80 32 [1] iota_S256x80_d1_w32) (broadcast S256x80 n))
    (broadcastTo S256x80 (shapeCast S256x1 (vScale (gAmax h)) shapeCasts_S256x1_S256x1) broadcasts_S256x1_S256x80)
    (shapeCast S256x80 old shapeCasts_S256x80_S256x80)

/-- The activations of the group at columns `off` of a tile of 256 rows and 256 columns. -/
def gHof (off : Fin 2 → ℕ) (hs : S256x256.Slices off S256x128) (x : Vec F S256x2560 .fp8e4m3) (xs : Vec F S256x1 .f32)
    (wg wu : Vec F S2560x256 .fp8e4m3) (sg su : Vec F S1x128 .f32) : FVec F S256x128 .f32 :=
  gH (gScaled off hs (gAcc x wg) xs sg) (gScaled off hs (gAcc x wu) xs su)

end Cert.KernelIdeal.Gen

end
-- ==== Proof.Lists.lean ====
/- The stores of one grid point, as sixteen places of one group function. -/
module

public import proofs.«01_k».proof.Proof.Points
public import proofs.«01_k».proof.Proof.Group

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activations of the group at rows `256 m …` and columns `256 n + 128 g …`, from what the windows hold. -/
def gPart (X9 : Vec F S1024x2560 .fp8e4m3) (X10 : Vec F S1024x1 .f32) (X3 X4 : Vec F S2560x512 .fp8e4m3)
    (X5 X6 : Vec F S1x512 .f32) (m : Fin 4) (n g : Fin 2) : FVec F S256x128 .f32 :=
  gHof ![0, 128 * g.val] (by fin_cases g <;> decide)
    (View.ld X9 (Rect.unit (s := S1024x2560) ![256 * m.val, 0] S256x2560.size (by fin_cases m <;> decide)))
    (View.ld X10 (Rect.unit (s := S1024x1) ![256 * m.val, 0] S256x1.size (by fin_cases m <;> decide)))
    (View.ld X3 (Rect.unit (s := S2560x512) ![0, 256 * n.val] S2560x256.size (by fin_cases n <;> decide)))
    (View.ld X4 (Rect.unit (s := S2560x512) ![0, 256 * n.val] S2560x256.size (by fin_cases n <;> decide)))
    (View.ld X5 (Rect.unit (s := S1x512) ![0, 256 * n.val + 128 * g.val] S1x128.size (by fin_cases n <;> fin_cases g <;> decide)))
    (View.ld X6 (Rect.unit (s := S1x512) ![0, 256 * n.val + 128 * g.val] S1x128.size (by fin_cases n <;> fin_cases g <;> decide)))

/-- The store of a group's codes. -/
def pCodes (X9 : Vec F S1024x2560 .fp8e4m3) (X10 : Vec F S1024x1 .f32) (X3 X4 : Vec F S2560x512 .fp8e4m3)
    (X5 X6 : Vec F S1x512 .f32) (m : Fin 4) (n g : Fin 2) : View.Piece (Elt F) S1024x512 .fp8e4m3 :=
  ⟨Rect.unit (s := S1024x512) ![256 * m.val, 256 * n.val + 128 * g.val] S256x128.size
    (by fin_cases m <;> fin_cases n <;> fin_cases g <;> decide), gCodes (gPart X9 X10 X3 X4 X5 X6 m n g)⟩

/-- The sixteen stores of codes, last first. -/
def lCodes (X9 : Vec F S1024x2560 .fp8e4m3) (X10 : Vec F S1024x1 .f32) (X3 X4 : Vec F S2560x512 .fp8e4m3)
    (X5 X6 : Vec F S1x512 .f32) : List (View.Piece (Elt F) S1024x512 .fp8e4m3) :=
  [pCodes X9 X10 X3 X4 X5 X6 3 1 1,
    pCodes X9 X10 X3 X4 X5 X6 3 1 0,
    pCodes X9 X10 X3 X4 X5 X6 3 0 1,
    pCodes X9 X10 X3 X4 X5 X6 3 0 0,
    pCodes X9 X10 X3 X4 X5 X6 2 1 1,
    pCodes X9 X10 X3 X4 X5 X6 2 1 0,
    pCodes X9 X10 X3 X4 X5 X6 2 0 1,
    pCodes X9 X10 X3 X4 X5 X6 2 0 0,
    pCodes X9 X10 X3 X4 X5 X6 1 1 1,
    pCodes X9 X10 X3 X4 X5 X6 1 1 0,
    pCodes X9 X10 X3 X4 X5 X6 1 0 1,
    pCodes X9 X10 X3 X4 X5 X6 1 0 0,
    pCodes X9 X10 X3 X4 X5 X6 0 1 1,
    pCodes X9 X10 X3 X4 X5 X6 0 1 0,
    pCodes X9 X10 X3 X4 X5 X6 0 0 1,
    pCodes X9 X10 X3 X4 X5 X6 0 0 0]

/-- The rows `256 m …` of the scales' block. -/
def rScale (m : Fin 4) : Rect S1024x80 :=
  Rect.unit (s := S1024x80) ![256 * m.val, 0] S256x80.size (by fin_cases m <;> decide)

/-- The lane of a group, as the body computes it from the grid's column. -/
def laneOf (j : ℕ) (n g : Fin 2) : BitVec 32 :=
  Scalar.addi (Scalar.addi (Scalar.muli (BitVec.ofNat 32 j) 4#32) (BitVec.ofNat 32 (2 * n.val))) (BitVec.ofNat 32 g.val)

/-- The store of a group's scales over what was read. -/
def pScale (j : ℕ) (X9 : Vec F S1024x2560 .fp8e4m3) (X10 : Vec F S1024x1 .f32) (X3 X4 : Vec F S2560x512 .fp8e4m3)
    (X5 X6 : Vec F S1x512 .f32) (m : Fin 4) (n g : Fin 2) (old : Vec F S256x80 .f32) : View.Piece (Elt F) S1024x80 .f32 :=
  ⟨rScale m, gSel (laneOf j n g) (gPart X9 X10 X3 X4 X5 X6 m n g) old⟩

section
variable (j : ℕ) (arg8 : Memref sig .tc .vmem S1024x80 .f32) (X9 : Vec F S1024x2560 .fp8e4m3) (X10 : Vec F S1024x1 .f32)
  (X3 X4 : Vec F S2560x512 .fp8e4m3) (X5 X6 : Vec F S1x512 .f32) (f8 : BufTy.Contents (Elt F) arg8.view.ty)

/-- The stores of scales at a later column, the last first, after each of the sixteen groups: the first group of a
    block of rows reads what the window held, the others read the store before. -/
def lB1 : List (View.Piece (Elt F) S1024x80 .f32) := pScale j X9 X10 X3 X4 X5 X6 0 0 0 (arg8.view.readAt (Elt F) (rScale 0).toLoadRect f8) :: []
def lB2 : List (View.Piece (Elt F) S1024x80 .f32) := pScale j X9 X10 X3 X4 X5 X6 0 0 1 (arg8.view.readCov (lB1 j arg8 X9 X10 X3 X4 X5 X6 f8) (rScale 0).toLoadRect) :: lB1 j arg8 X9 X10 X3 X4 X5 X6 f8
def lB3 : List (View.Piece (Elt F) S1024x80 .f32) := pScale j X9 X10 X3 X4 X5 X6 0 1 0 (arg8.view.readCov (lB2 j arg8 X9 X10 X3 X4 X5 X6 f8) (rScale 0).toLoadRect) :: lB2 j arg8 X9 X10 X3 X4 X5 X6 f8
def lB4 : List (View.Piece (Elt F) S1024x80 .f32) := pScale j X9 X10 X3 X4 X5 X6 0 1 1 (arg8.view.readCov (lB3 j arg8 X9 X10 X3 X4 X5 X6 f8) (rScale 0).toLoadRect) :: lB3 j arg8 X9 X10 X3 X4 X5 X6 f8
def lB5 : List (View.Piece (Elt F) S1024x80 .f32) := pScale j X9 X10 X3 X4 X5 X6 1 0 0 (arg8.view.readAt (Elt F) (rScale 1).toLoadRect f8) :: lB4 j arg8 X9 X10 X3 X4 X5 X6 f8
def lB6 : List (View.Piece (Elt F) S1024x80 .f32) := pScale j X9 X10 X3 X4 X5 X6 1 0 1 (arg8.view.readCov (lB5 j arg8 X9 X10 X3 X4 X5 X6 f8) (rScale 1).toLoadRect) :: lB5 j arg8 X9 X10 X3 X4 X5 X6 f8
def lB7 : List (View.Piece (Elt F) S1024x80 .f32) := pScale j X9 X10 X3 X4 X5 X6 1 1 0 (arg8.view.readCov (lB6 j arg8 X9 X10 X3 X4 X5 X6 f8) (rScale 1).toLoadRect) :: lB6 j arg8 X9 X10 X3 X4 X5 X6 f8
def lB8 : List (View.Piece (Elt F) S1024x80 .f32) := pScale j X9 X10 X3 X4 X5 X6 1 1 1 (arg8.view.readCov (lB7 j arg8 X9 X10 X3 X4 X5 X6 f8) (rScale 1).toLoadRect) :: lB7 j arg8 X9 X10 X3 X4 X5 X6 f8
def lB9 : List (View.Piece (Elt F) S1024x80 .f32) := pScale j X9 X10 X3 X4 X5 X6 2 0 0 (arg8.view.readAt (Elt F) (rScale 2).toLoadRect f8) :: lB8 j arg8 X9 X10 X3 X4 X5 X6 f8
def lB10 : List (View.Piece (Elt F) S1024x80 .f32) := pScale j X9 X10 X3 X4 X5 X6 2 0 1 (arg8.view.readCov (lB9 j arg8 X9 X10 X3 X4 X5 X6 f8) (rScale 2).toLoadRect) :: lB9 j arg8 X9 X10 X3 X4 X5 X6 f8
def lB11 : List (View.Piece (Elt F) S1024x80 .f32) := pScale j X9 X10 X3 X4 X5 X6 2 1 0 (arg8.view.readCov (lB10 j arg8 X9 X10 X3 X4 X5 X6 f8) (rScale 2).toLoadRect) :: lB10 j arg8 X9 X10 X3 X4 X5 X6 f8
def lB12 : List (View.Piece (Elt F) S1024x80 .f32) := pScale j X9 X10 X3 X4 X5 X6 2 1 1 (arg8.view.readCov (lB11 j arg8 X9 X10 X3 X4 X5 X6 f8) (rScale 2).toLoadRect) :: lB11 j arg8 X9 X10 X3 X4 X5 X6 f8
def lB13 : List (View.Piece (Elt F) S1024x80 .f32) := pScale j X9 X10 X3 X4 X5 X6 3 0 0 (arg8.view.readAt (Elt F) (rScale 3).toLoadRect f8) :: lB12 j arg8 X9 X10 X3 X4 X5 X6 f8
def lB14 : List (View.Piece (Elt F) S1024x80 .f32) := pScale j X9 X10 X3 X4 X5 X6 3 0 1 (arg8.view.readCov (lB13 j arg8 X9 X10 X3 X4 X5 X6 f8) (rScale 3).toLoadRect) :: lB13 j arg8 X9 X10 X3 X4 X5 X6 f8
def lB15 : List (View.Piece (Elt F) S1024x80 .f32) := pScale j X9 X10 X3 X4 X5 X6 3 1 0 (arg8.view.readCov (lB14 j arg8 X9 X10 X3 X4 X5 X6 f8) (rScale 3).toLoadRect) :: lB14 j arg8 X9 X10 X3 X4 X5 X6 f8
def lB16 : List (View.Piece (Elt F) S1024x80 .f32) := pScale j X9 X10 X3 X4 X5 X6 3 1 1 (arg8.view.readCov (lB15 j arg8 X9 X10 X3 X4 X5 X6 f8) (rScale 3).toLoadRect) :: lB15 j arg8 X9 X10 X3 X4 X5 X6 f8

/-- The same at column 0, where the block is zeroed before: every group reads the stores before it. -/
def lA0 : List (View.Piece (Elt F) S1024x80 .f32) :=
  [⟨Rect.unit (s := S1024x80) ![0, 0] S1024x80.size inb_S1024x80_S1024x80_0_0, k0_pay9⟩]
def lA1 : List (View.Piece (Elt F) S1024x80 .f32) := pScale j X9 X10 X3 X4 X5 X6 0 0 0 (arg8.view.readCov (lA0) (rScale 0).toLoadRect) :: lA0
def lA2 : List (View.Piece (Elt F) S1024x80 .f32) := pScale j X9 X10 X3 X4 X5 X6 0 0 1 (arg8.view.readCov (lA1 j arg8 X9 X10 X3 X4 X5 X6) (rScale 0).toLoadRect) :: lA1 j arg8 X9 X10 X3 X4 X5 X6
def lA3 : List (View.Piece (Elt F) S1024x80 .f32) := pScale j X9 X10 X3 X4 X5 X6 0 1 0 (arg8.view.readCov (lA2 j arg8 X9 X10 X3 X4 X5 X6) (rScale 0).toLoadRect) :: lA2 j arg8 X9 X10 X3 X4 X5 X6
def lA4 : List (View.Piece (Elt F) S1024x80 .f32) := pScale j X9 X10 X3 X4 X5 X6 0 1 1 (arg8.view.readCov (lA3 j arg8 X9 X10 X3 X4 X5 X6) (rScale 0).toLoadRect) :: lA3 j arg8 X9 X10 X3 X4 X5 X6
def lA5 : List (View.Piece (Elt F) S1024x80 .f32) := pScale j X9 X10 X3 X4 X5 X6 1 0 0 (arg8.view.readCov (lA4 j arg8 X9 X10 X3 X4 X5 X6) (rScale 1).toLoadRect) :: lA4 j arg8 X9 X10 X3 X4 X5 X6
def lA6 : List (View.Piece (Elt F) S1024x80 .f32) := pScale j X9 X10 X3 X4 X5 X6 1 0 1 (arg8.view.readCov (lA5 j arg8 X9 X10 X3 X4 X5 X6) (rScale 1).toLoadRect) :: lA5 j arg8 X9 X10 X3 X4 X5 X6
def lA7 : List (View.Piece (Elt F) S1024x80 .f32) := pScale j X9 X10 X3 X4 X5 X6 1 1 0 (arg8.view.readCov (lA6 j arg8 X9 X10 X3 X4 X5 X6) (rScale 1).toLoadRect) :: lA6 j arg8 X9 X10 X3 X4 X5 X6
def lA8 : List (View.Piece (Elt F) S1024x80 .f32) := pScale j X9 X10 X3 X4 X5 X6 1 1 1 (arg8.view.readCov (lA7 j arg8 X9 X10 X3 X4 X5 X6) (rScale 1).toLoadRect) :: lA7 j arg8 X9 X10 X3 X4 X5 X6
def lA9 : List (View.Piece (Elt F) S1024x80 .f32) := pScale j X9 X10 X3 X4 X5 X6 2 0 0 (arg8.view.readCov (lA8 j arg8 X9 X10 X3 X4 X5 X6) (rScale 2).toLoadRect) :: lA8 j arg8 X9 X10 X3 X4 X5 X6
def lA10 : List (View.Piece (Elt F) S1024x80 .f32) := pScale j X9 X10 X3 X4 X5 X6 2 0 1 (arg8.view.readCov (lA9 j arg8 X9 X10 X3 X4 X5 X6) (rScale 2).toLoadRect) :: lA9 j arg8 X9 X10 X3 X4 X5 X6
def lA11 : List (View.Piece (Elt F) S1024x80 .f32) := pScale j X9 X10 X3 X4 X5 X6 2 1 0 (arg8.view.readCov (lA10 j arg8 X9 X10 X3 X4 X5 X6) (rScale 2).toLoadRect) :: lA10 j arg8 X9 X10 X3 X4 X5 X6
def lA12 : List (View.Piece (Elt F) S1024x80 .f32) := pScale j X9 X10 X3 X4 X5 X6 2 1 1 (arg8.view.readCov (lA11 j arg8 X9 X10 X3 X4 X5 X6) (rScale 2).toLoadRect) :: lA11 j arg8 X9 X10 X3 X4 X5 X6
def lA13 : List (View.Piece (Elt F) S1024x80 .f32) := pScale j X9 X10 X3 X4 X5 X6 3 0 0 (arg8.view.readCov (lA12 j arg8 X9 X10 X3 X4 X5 X6) (rScale 3).toLoadRect) :: lA12 j arg8 X9 X10 X3 X4 X5 X6
def lA14 : List (View.Piece (Elt F) S1024x80 .f32) := pScale j X9 X10 X3 X4 X5 X6 3 0 1 (arg8.view.readCov (lA13 j arg8 X9 X10 X3 X4 X5 X6) (rScale 3).toLoadRect) :: lA13 j arg8 X9 X10 X3 X4 X5 X6
def lA15 : List (View.Piece (Elt F) S1024x80 .f32) := pScale j X9 X10 X3 X4 X5 X6 3 1 0 (arg8.view.readCov (lA14 j arg8 X9 X10 X3 X4 X5 X6) (rScale 3).toLoadRect) :: lA14 j arg8 X9 X10 X3 X4 X5 X6
def lA16 : List (View.Piece (Elt F) S1024x80 .f32) := pScale j X9 X10 X3 X4 X5 X6 3 1 1 (arg8.view.readCov (lA15 j arg8 X9 X10 X3 X4 X5 X6) (rScale 3).toLoadRect) :: lA15 j arg8 X9 X10 X3 X4 X5 X6
end

end Cert.KernelIdeal.Gen

end
-- ==== Proof.Pow2.lean ====
/- The power-of-two scale of an amplitude, on one number: the ladder of comparisons finds the exponent of the reference. -/
module

public import Idealize.ShloMosaic.Lib.Pointwise

@[expose] public section

noncomputable section

namespace Cert.Scale

open Idealize.ShloMosaic

/-- One rung of the ladder, on one number. -/
def step1 (s : EReal) (b p : BitVec 32) : BitVec 32 :=
  Scalar.select (FloatOps.cmpf (F := Ideal) (φ := .f32) .oge s (FloatOps.ofBits (F := Ideal) .f32 (IntOp.addi p b))) (IntOp.addi p b) p

/-- The ladder, on one number. -/
def ladder1 (s : EReal) : BitVec 32 :=
  step1 s 8388608#32 <| step1 s 16777216#32 <| step1 s 33554432#32 <| step1 s 67108864#32 <|
  step1 s 134217728#32 <| step1 s 268435456#32 <| step1 s 536870912#32 <| step1 s 1073741824#32 0#32

/-- The bits of the scale of an amplitude, as the kernel finds them. -/
def bits1 (a : EReal) : BitVec 32 :=
  let r := IntOp.addi (Scalar.select (FloatOps.cmpf (F := Ideal) (φ := .f32) .ole a (FloatOps.ofBits (F := Ideal) .f32 0x7F7FFFFF#32))
    (ladder1 (FloatOps.mulf (F := Ideal) (φ := .f32) a (FloatOps.ofBits (F := Ideal) .f32 0x3B124925#32))) 2139095040#32) 8388608#32
  Scalar.select (IntOp.cmpi .sgt r 8388608#32) r 1065353216#32

/-- The scale of an amplitude, as the kernel finds it. -/
def scale1 (a : EReal) : EReal := FloatOps.ofBits (F := Ideal) .f32 (bits1 a)

/-- The reciprocal of the scale of an amplitude, as the kernel finds it. -/
def inv1 (a : EReal) : EReal := FloatOps.ofBits (F := Ideal) .f32 (IntOp.subi 2130706432#32 (bits1 a))

/-- The exponent of the scale of an amplitude, as the reference states it. -/
def exp1 (a : EReal) : EReal :=
  Scalar.select (IntOp.andi (FloatOps.cmpf (F := Ideal) (φ := .f32) .ole a (FloatOps.ofBits (F := Ideal) .f32 0x7F7FFFFF#32))
      (FloatOps.cmpf (F := Ideal) (φ := .f32) .oge (FloatOps.mulf (F := Ideal) (φ := .f32) a (FloatOps.ofBits (F := Ideal) .f32 0x3B124925#32))
        (FloatOps.ofBits (F := Ideal) .f32 0x00800000#32)))
    (FloatOps.addf (F := Ideal) (φ := .f32) (FloatOps.floor (F := Ideal) (φ := .f32) (FloatOps.divf (F := Ideal) (φ := .f32)
        (FloatOps.log (F := Ideal) (φ := .f32) (FloatOps.mulf (F := Ideal) (φ := .f32) a (FloatOps.ofBits (F := Ideal) .f32 0x3B124925#32)))
        (FloatOps.log (F := Ideal) (φ := .f32) (FloatOps.ofBits (F := Ideal) .f32 0x40000000#32))))
      (FloatOps.ofBits (F := Ideal) .f32 0x3F800000#32))
    (FloatOps.ofBits (F := Ideal) .f32 0x00000000#32)

/-- The number of the exponent field `j`. -/
def f (j : ℕ) : EReal := Ideal.ofBits .f32 (BitVec.ofNat 32 (j * 2 ^ 23))

theorem f_fields : ∀ j : Fin 256, ((BitVec.ofNat 32 (j.val * 2 ^ 23)).extractLsb' 31 1 == 1#1) = false ∧
    ((BitVec.ofNat 32 (j.val * 2 ^ 23)).extractLsb' 23 8).toNat = j.val ∧
    ((BitVec.ofNat 32 (j.val * 2 ^ 23)).extractLsb' 0 23).toNat = 0 := by decide +kernel

/-- A normal pattern without fraction is its power of two. -/
theorem ieee_normal (b : BitVec 32) (j : ℕ) (h1 : 1 ≤ j) (h2 : j ≤ 254) (a : (b.extractLsb' 31 1 == 1#1) = false)
  (b' : (b.extractLsb' 23 8).toNat = j) (c : (b.extractLsb' 0 23).toNat = 0) : Ideal.ieee 8 23 b = (((2 : ℝ) ^ ((j : ℤ) - 127) : ℝ) : EReal) := by
  have e1 : j ≠ 2 ^ 8 - 1 := by norm_num; omega
  have e2 : j ≠ 0 := by omega
  unfold Ideal.ieee
  rw [show 8 + 23 = 31 from rfl]
  simp only [a, b', c, if_neg e1, if_neg e2]
  have : (2 : ℝ) ^ ((j : ℤ) - 127) = 2 ^ 23 * (2 : ℝ) ^ ((j : ℤ) - (2 ^ (8 - 1) - 1) - (23 : ℕ)) := by
    rw [show (2 : ℝ) ^ 23 = (2 : ℝ) ^ (23 : ℤ) by norm_num, ← zpow_add₀ (by norm_num)]; congr 1; norm_num
  rw [this]
  congr 1
  simp only [Bool.false_eq_true, if_false, one_mul, add_zero, Nat.cast_pow, Nat.cast_ofNat]

theorem ofBits_ieee (b : BitVec 32) : Ideal.ofBits .f32 b = Ideal.ieee 8 23 b := rfl

/-- A normal exponent field is its power of two. -/
theorem f_normal {j : ℕ} (h1 : 1 ≤ j) (h2 : j ≤ 254) : f j = (((2 : ℝ) ^ ((j : ℤ) - 127) : ℝ) : EReal) := by
  obtain ⟨a, b, c⟩ := f_fields ⟨j, by omega⟩
  unfold f
  rw [ofBits_ieee]
  exact ieee_normal _ j h1 h2 a b c

/-- An all-ones pattern without sign and fraction is infinite. -/
theorem ieee_top (b : BitVec 32) (a : (b.extractLsb' 31 1 == 1#1) = false)
    (b' : (b.extractLsb' 23 8).toNat = 255) (c : (b.extractLsb' 0 23).toNat = 0) : Ideal.ieee 8 23 b = ⊤ := by
  unfold Ideal.ieee
  rw [show 8 + 23 = 31 from rfl]
  simp only [a, b', c]
  norm_num

theorem f_255 : f 255 = ⊤ := by
  obtain ⟨a, b, c⟩ := f_fields ⟨255, by omega⟩
  unfold f
  rw [ofBits_ieee]
  exact ieee_top _ a b c

/-- One rung keeps the bracket of the search. -/
theorem step1_bracket {s : EReal} {k i : ℕ} {b : BitVec 32} (hb : b = BitVec.ofNat 32 (2 ^ i * 2 ^ 23)) (hk : k + 2 ^ (i + 1) ≤ 256) (h1 : k = 0 ∨ f k ≤ s)
    (h2 : k + 2 ^ (i + 1) = 256 ∨ s < f (k + 2 ^ (i + 1))) :
    ∃ k', step1 s b (BitVec.ofNat 32 (k * 2 ^ 23)) = BitVec.ofNat 32 (k' * 2 ^ 23) ∧
      k' + 2 ^ i ≤ 256 ∧ (k' = 0 ∨ f k' ≤ s) ∧ (k' + 2 ^ i = 256 ∨ s < f (k' + 2 ^ i)) := by
  have e : IntOp.addi (BitVec.ofNat 32 (k * 2 ^ 23)) (BitVec.ofNat 32 (2 ^ i * 2 ^ 23)) = BitVec.ofNat 32 ((k + 2 ^ i) * 2 ^ 23) := by
    rw [add_mul, BitVec.ofNat_add]; rfl
  subst hb
  have p : 2 ^ (i + 1) = 2 ^ i + 2 ^ i := by rw [pow_succ]; omega
  have pos : 0 < 2 ^ i := by positivity
  unfold step1
  rw [e]
  by_cases c : f (k + 2 ^ i) ≤ s
  · refine ⟨k + 2 ^ i, ?_, by omega, .inr c, ?_⟩
    · show Scalar.select (BitVec.ofBool (decide (f (k + 2 ^ i) ≤ s))) _ _ = _
      simp [c, Scalar.select]
    · rw [p] at h2; rw [add_assoc]; exact h2
  · refine ⟨k, ?_, by omega, h1, .inr (not_le.mp c)⟩
    show Scalar.select (BitVec.ofBool (decide (f (k + 2 ^ i) ≤ s))) _ _ = _
    simp [c, Scalar.select]

/-- The ladder finds the exponent field. -/
theorem ladder1_spec (s : EReal) : ∃ k, ladder1 s = BitVec.ofNat 32 (k * 2 ^ 23) ∧ k ≤ 255 ∧ (k = 0 ∨ f k ≤ s) ∧
    (k = 255 ∨ s < f (k + 1)) := by
  have z : (0#32 : BitVec 32) = BitVec.ofNat 32 (0 * 2 ^ 23) := by decide
  obtain ⟨k7, e7, a7, b7, c7⟩ := step1_bracket (s := s) (k := 0) (i := 7) (b := 1073741824#32) (by decide) (by norm_num) (.inl rfl) (.inl rfl)
  obtain ⟨k6, e6, a6, b6, c6⟩ := step1_bracket (s := s) (i := 6) (b := 536870912#32) (by decide) a7 b7 c7
  obtain ⟨k5, e5, a5, b5, c5⟩ := step1_bracket (s := s) (i := 5) (b := 268435456#32) (by decide) a6 b6 c6
  obtain ⟨k4, e4, a4, b4, c4⟩ := step1_bracket (s := s) (i := 4) (b := 134217728#32) (by decide) a5 b5 c5
  obtain ⟨k3, e3, a3, b3, c3⟩ := step1_bracket (s := s) (i := 3) (b := 67108864#32) (by decide) a4 b4 c4
  obtain ⟨k2, e2, a2, b2, c2⟩ := step1_bracket (s := s) (i := 2) (b := 33554432#32) (by decide) a3 b3 c3
  obtain ⟨k1, e1, a1, b1, c1⟩ := step1_bracket (s := s) (i := 1) (b := 16777216#32) (by decide) a2 b2 c2
  obtain ⟨k0, e0, a0, b0, c0⟩ := step1_bracket (s := s) (i := 0) (b := 8388608#32) (by decide) a1 b1 c1
  refine ⟨k0, ?_, by omega, b0, ?_⟩
  · unfold ladder1; rw [z, e7, e6, e5, e4, e3, e2, e1, e0]
  · rcases c0 with c | c
    · left; omega
    · right; exact c

/-- The largest finite amplitude. -/
theorem ofBits_max : Ideal.ofBits .f32 0x7F7FFFFF#32 = ((16777215 * 2 ^ (104 : ℕ) : ℝ) : EReal) := by
  simp [Ideal.ofBits, Ideal.ieee, -EReal.coe_mul]

/-- The rounded reciprocal of 448. -/
theorem ofBits_rcp : Ideal.ofBits .f32 0x3B124925#32 = ((9586981 : ℝ) * (2 : ℝ) ^ (-32 : ℤ) : ℝ) := by
  simp [Ideal.ofBits, Ideal.ieee, -EReal.coe_mul]

theorem ofBits_two : Ideal.ofBits .f32 0x40000000#32 = ((2 : ℝ) : EReal) := by
  simp [Ideal.ofBits, Ideal.ieee, -EReal.coe_mul]; norm_num

theorem ofBits_one' : Ideal.ofBits .f32 0x3F800000#32 = ((1 : ℝ) : EReal) := by
  simp [Ideal.ofBits, Ideal.ieee, -EReal.coe_mul]; norm_num

theorem ofBits_zero' : Ideal.ofBits .f32 0x00000000#32 = ((0 : ℝ) : EReal) := by
  simp [Ideal.ofBits, Ideal.ieee, -EReal.coe_mul]

/-- The bits of the scale at a nonzero exponent field. -/
theorem bits_pos {k : ℕ} (h1 : 1 ≤ k) (h2 : k ≤ 252) :
    Scalar.select (IntOp.cmpi .sgt (IntOp.addi (BitVec.ofNat 32 (k * 2 ^ 23)) 8388608#32) 8388608#32)
      (IntOp.addi (BitVec.ofNat 32 (k * 2 ^ 23)) 8388608#32) 1065353216#32 = BitVec.ofNat 32 ((k + 1) * 2 ^ 23) := by
  have e : IntOp.addi (BitVec.ofNat 32 (k * 2 ^ 23)) 8388608#32 = BitVec.ofNat 32 ((k + 1) * 2 ^ 23) := by
    rw [add_mul, BitVec.ofNat_add]; rfl
  have c : IntOp.cmpi .sgt (BitVec.ofNat 32 ((k + 1) * 2 ^ 23)) 8388608#32 = 1#1 := by
    show BitVec.ofBool (BitVec.slt 8388608#32 (BitVec.ofNat 32 ((k + 1) * 2 ^ 23))) = 1#1
    have : BitVec.slt 8388608#32 (BitVec.ofNat 32 ((k + 1) * 2 ^ 23)) = true := by
      rw [BitVec.slt_iff_toInt_lt, BitVec.toInt_eq_toNat_of_lt, BitVec.toInt_eq_toNat_of_lt] <;>
        simp only [BitVec.toNat_ofNat] <;> omega
    rw [this]; rfl
  rw [e, c]; rfl

/-- The bits of the reciprocal at a nonzero exponent field. -/
theorem bits_inv {k : ℕ} (h2 : k ≤ 252) :
    IntOp.subi 2130706432#32 (BitVec.ofNat 32 ((k + 1) * 2 ^ 23)) = BitVec.ofNat 32 ((253 - k) * 2 ^ 23) := by
  show 2130706432#32 - BitVec.ofNat 32 ((k + 1) * 2 ^ 23) = _
  have e : (2130706432#32 : BitVec 32) = BitVec.ofNat 32 ((253 - k) * 2 ^ 23) + BitVec.ofNat 32 ((k + 1) * 2 ^ 23) := by
    rw [← BitVec.ofNat_add, ← add_mul, show 253 - k + (k + 1) = 254 by omega]
    decide
  rw [e, BitVec.add_sub_cancel]

theorem ofBits_f (j : ℕ) : FloatOps.ofBits (F := Ideal) .f32 (BitVec.ofNat 32 (j * 2 ^ 23)) = f j := rfl

theorem ofBits_127 : FloatOps.ofBits (F := Ideal) .f32 (1065353216#32) = Ideal.ofBits .f32 0x3F800000#32 := rfl

theorem bits_one : (1065353216#32 : BitVec 32) = BitVec.ofNat 32 (127 * 2 ^ 23) ∧
    IntOp.subi 2130706432#32 (1065353216#32 : BitVec 32) = BitVec.ofNat 32 (127 * 2 ^ 23) := by decide

theorem exp2_zero : Ideal.exp2 ((0 : ℝ) : EReal) = ((1 : ℝ) : EReal) := by
  rw [Ideal.exp2_coe]; exact congrArg _ (Real.rpow_zero 2)

theorem exp2_int (n : ℤ) : Ideal.exp2 ((n : ℝ) : EReal) = (((2 : ℝ) ^ n : ℝ) : EReal) := by
  rw [Ideal.exp2_coe]; exact congrArg _ (Real.rpow_intCast 2 n)

theorem f_127 : f 127 = ((1 : ℝ) : EReal) := by rw [f_normal (by norm_num) (by norm_num)]; norm_num

theorem cmp_max_pos {a : EReal} (ha : a ≤ Ideal.ofBits .f32 0x7F7FFFFF#32) :
    FloatOps.cmpf (F := Ideal) (φ := .f32) .ole a (FloatOps.ofBits (F := Ideal) .f32 0x7F7FFFFF#32) = 1#1 := by
  show BitVec.ofBool (decide (a ≤ Ideal.ofBits .f32 0x7F7FFFFF#32)) = _
  rw [decide_eq_true ha]; rfl

theorem cmp_max_neg {a : EReal} (ha : ¬ a ≤ Ideal.ofBits .f32 0x7F7FFFFF#32) :
    FloatOps.cmpf (F := Ideal) (φ := .f32) .ole a (FloatOps.ofBits (F := Ideal) .f32 0x7F7FFFFF#32) = 0#1 := by
  show BitVec.ofBool (decide (a ≤ Ideal.ofBits .f32 0x7F7FFFFF#32)) = _
  rw [decide_eq_false ha]; rfl

theorem select_one {α : Type} (x y : α) : Scalar.select 1#1 x y = x := rfl

theorem select_zero {α : Type} (x y : α) : Scalar.select 0#1 x y = y := rfl

theorem bits1_of_le {a : EReal} (ha : a ≤ Ideal.ofBits .f32 0x7F7FFFFF#32) {k : ℕ}
    (hk : ladder1 (a * Ideal.ofBits .f32 0x3B124925#32) = BitVec.ofNat 32 (k * 2 ^ 23)) :
    bits1 a = Scalar.select (IntOp.cmpi .sgt (IntOp.addi (BitVec.ofNat 32 (k * 2 ^ 23)) 8388608#32) 8388608#32)
        (IntOp.addi (BitVec.ofNat 32 (k * 2 ^ 23)) 8388608#32) 1065353216#32 := by
  unfold bits1
  rw [cmp_max_pos ha, Ideal.mulf_def, Ideal.ofBits_def]
  simp only [select_one, hk]

theorem andi_one : ∀ b : BitVec 1, IntOp.andi 1#1 b = b := by decide

theorem andi_zero : ∀ b : BitVec 1, IntOp.andi 0#1 b = 0#1 := by decide

theorem cmp_tiny (s : EReal) : FloatOps.cmpf (F := Ideal) (φ := .f32) .oge s (Ideal.ofBits .f32 0x00800000#32) =
    BitVec.ofBool (decide (f 1 ≤ s)) := rfl

theorem floor_def (s : EReal) : FloatOps.floor (F := Ideal) (φ := .f32) s = Ideal.liftRound Int.floor s := rfl

theorem exp1_of_le {a : EReal} (ha : a ≤ Ideal.ofBits .f32 0x7F7FFFFF#32) :
    exp1 a = Scalar.select (BitVec.ofBool (decide (f 1 ≤ a * Ideal.ofBits .f32 0x3B124925#32)))
        (Ideal.liftRound Int.floor (Ideal.div (Ideal.log (a * Ideal.ofBits .f32 0x3B124925#32)) (Ideal.log (Ideal.ofBits .f32 0x40000000#32))) + Ideal.ofBits .f32 0x3F800000#32)
        (Ideal.ofBits .f32 0x00000000#32) := by
  unfold exp1
  rw [cmp_max_pos ha, andi_one, Ideal.mulf_def]
  simp only [Ideal.ofBits_def]
  rw [cmp_tiny, Ideal.addf_def, floor_def, Ideal.divf_def, Ideal.log_def, Ideal.log_def]

theorem bound_max {a : EReal} (ha : a ≤ Ideal.ofBits .f32 0x7F7FFFFF#32) :
    a * Ideal.ofBits .f32 0x3B124925#32 ≤ (((2 : ℝ) ^ (125 : ℤ) : ℝ) : EReal) := by
  have hm := mul_le_mul_of_nonneg_right ha (show (0 : EReal) ≤ Ideal.ofBits .f32 0x3B124925#32 by
    rw [ofBits_rcp]; exact EReal.coe_nonneg.mpr (by positivity))
  refine hm.trans ?_
  rw [ofBits_max, ofBits_rcp, ← EReal.coe_mul, EReal.coe_le_coe_iff]
  norm_num

theorem bits_min : Scalar.select (IntOp.cmpi .sgt (IntOp.addi (BitVec.ofNat 32 (0 * 2 ^ 23)) 8388608#32) 8388608#32)
        (IntOp.addi (BitVec.ofNat 32 (0 * 2 ^ 23)) 8388608#32) 1065353216#32 = 1065353216#32 := by decide

theorem bits_inf : Scalar.select (IntOp.cmpi .sgt (IntOp.addi 2139095040#32 8388608#32) 8388608#32)
        (IntOp.addi 2139095040#32 8388608#32) 1065353216#32 = (1065353216#32 : BitVec 32) := by decide

theorem floor_log {r : ℝ} {n : ℤ} (rpos : 0 < r) (flo : (2 : ℝ) ^ n ≤ r) (fhi : r < (2 : ℝ) ^ (n + 1)) :
    ⌊Real.log r * (1 / Real.log 2)⌋ = n := by
  have l2 : 0 < Real.log 2 := Real.log_pos (by norm_num)
  have : Real.log r * (1 / Real.log 2) = Real.log r / Real.log 2 := by ring
  rw [this, Int.floor_eq_iff]
  constructor
  · rw [le_div_iff₀ l2, ← Real.log_zpow]
    exact Real.log_le_log (by positivity) flo
  · rw [div_lt_iff₀ l2]
    have : (n : ℝ) + 1 = ((n + 1 : ℤ) : ℝ) := by push_cast; ring
    rw [this, ← Real.log_zpow]
    exact Real.log_lt_log rpos fhi

/-- The reference's exponent of a normal quotient. -/
theorem exponent_eq {r : ℝ} {n : ℤ} (rpos : 0 < r) (flo : (2 : ℝ) ^ n ≤ r) (fhi : r < (2 : ℝ) ^ (n + 1)) :
    Ideal.liftRound Int.floor (Ideal.div (Ideal.log r) (Ideal.log (Ideal.ofBits .f32 0x40000000#32))) +
      Ideal.ofBits .f32 0x3F800000#32 = ((n + 1 : ℤ) : ℝ) := by
  rw [ofBits_two, ofBits_one', Ideal.log_coe, Ideal.log_coe, if_neg (not_le.mpr rpos), if_neg (by norm_num),
    Ideal.div_coe (Real.log_pos (by norm_num : (1 : ℝ) < 2)).ne', ← EReal.coe_mul, Ideal.liftRound_coe,
    floor_log rpos flo fhi, ← EReal.coe_add]
  push_cast; rfl

/-- Either the scale is one and the exponent zero, or the exponent field `k` is the reference's exponent. -/
theorem cases1 (a : EReal) : (bits1 a = 1065353216#32 ∧ exp1 a = ((0 : ℝ) : EReal)) ∨
    ∃ k : ℕ, 1 ≤ k ∧ k ≤ 252 ∧ bits1 a = BitVec.ofNat 32 ((k + 1) * 2 ^ 23) ∧
      exp1 a = (((k : ℤ) - 126 : ℤ) : ℝ) := by
  by_cases ha : a ≤ Ideal.ofBits .f32 0x7F7FFFFF#32
  · set s : EReal := a * Ideal.ofBits .f32 0x3B124925#32 with hs
    obtain ⟨k, hk, hk2, hlo, hhi⟩ := ladder1_spec s
    have hb := bits1_of_le ha hk
    have hx := exp1_of_le ha
    rw [← hs] at hx
    by_cases c : f 1 ≤ s
    · have c' := c
      rw [f_normal (le_refl 1) (by norm_num)] at c'
      -- `s` is a real number
      have hub : s ≤ (((2 : ℝ) ^ (125 : ℤ) : ℝ) : EReal) := bound_max ha
      obtain ⟨r, hr⟩ : ∃ r : ℝ, s = r := by
        refine ⟨s.toReal, (EReal.coe_toReal ?_ ?_).symm⟩
        · intro h; rw [h] at hub; exact absurd hub (not_le.mpr (EReal.coe_lt_top _))
        · intro h; rw [h] at c'; exact absurd c' (by simp)
      rw [hr, EReal.coe_le_coe_iff] at c' hub
      have rpos : 0 < r := lt_of_lt_of_le (by positivity) c'
      have k1 : 1 ≤ k := by
        by_contra h
        have : k = 0 := by omega
        subst this
        rcases hhi with h | h
        · omega
        · exact absurd c (not_le.mpr h)
      have k254 : k ≤ 254 := by
        by_contra h
        have : k = 255 := by omega
        subst this
        rcases hlo with h | h
        · omega
        · have : f 255 = ⊤ := f_255
          rw [this, hr] at h; simp at h
      have flo : (2 : ℝ) ^ ((k : ℤ) - 127) ≤ r := by
        rcases hlo with h | h
        · omega
        · rw [f_normal k1 k254, hr, EReal.coe_le_coe_iff] at h; exact h
      have k252 : k ≤ 252 := by
        have := flo.trans hub
        have := (zpow_le_zpow_iff_right₀ (by norm_num : (1 : ℝ) < 2)).mp this
        omega
      have fhi : r < (2 : ℝ) ^ ((k : ℤ) - 127 + 1) := by
        rcases hhi with h | h
        · omega
        · rw [f_normal (by omega) (by omega), hr, EReal.coe_lt_coe_iff] at h
          convert h using 2; push_cast; ring
      right
      refine ⟨k, k1, k252, hb.trans (bits_pos k1 k252), ?_⟩
      have cr : decide (f 1 ≤ s) = true := decide_eq_true c
      rw [hx, cr, hr, exponent_eq rpos flo fhi]
      have e : (k : ℤ) - 127 + 1 = (k : ℤ) - 126 := by ring
      rw [e]; exact select_one _ _
    · left
      have k0 : k = 0 := by
        by_contra h
        rcases hlo with h' | h'
        · exact h h'
        · have lt := not_le.mp c
          rw [f_normal (le_refl 1) (by norm_num)] at lt
          by_cases h5 : k ≤ 254
          · rw [f_normal (by omega) h5] at h'
            have := h'.trans_lt lt
            rw [EReal.coe_lt_coe_iff] at this
            have := (zpow_lt_zpow_iff_right₀ (by norm_num : (1 : ℝ) < 2)).mp this
            omega
          · have : k = 255 := by omega
            subst this
            have : f 255 = ⊤ := f_255
            rw [this, top_le_iff] at h'
            rw [h'] at lt; simp at lt
      subst k0
      refine ⟨hb.trans bits_min, ?_⟩
      rw [hx, decide_eq_false c, ← ofBits_zero']
      rfl
  · left
    constructor
    · unfold bits1
      rw [cmp_max_neg ha]
      simp only [select_zero]
      exact bits_inf
    · unfold exp1
      rw [cmp_max_neg ha, andi_zero]
      exact ofBits_zero'

/-- The kernel's scale is two to the reference's exponent. -/
theorem scale1_eq (a : EReal) : scale1 a = Ideal.exp2 (exp1 a) := by
  rcases cases1 a with ⟨hb, he⟩ | ⟨k, k1, k2, hb, he⟩
  · rw [he, exp2_zero, scale1, hb, ofBits_127, ofBits_one']
  · rw [he, exp2_int, scale1, hb, ofBits_f, f_normal (j := k + 1) (by omega) (by omega)]
    have : ((k + 1 : ℕ) : ℤ) - 127 = (k : ℤ) - 126 := by omega
    rw [this]

/-- The kernel's reciprocal is two to minus the reference's exponent. -/
theorem inv1_eq (a : EReal) : inv1 a = Ideal.exp2 (Ideal.ofBits .f32 0x00000000#32 - exp1 a) := by
  rcases cases1 a with ⟨hb, he⟩ | ⟨k, k1, k2, hb, he⟩
  · rw [he, ofBits_zero', ← EReal.coe_sub, sub_zero, exp2_zero, inv1, hb, bits_one.2, ofBits_f, f_127]
  · rw [he, ofBits_zero', ← EReal.coe_sub, zero_sub, inv1, hb, bits_inv k2, ← Int.cast_neg, exp2_int, ofBits_f,
      f_normal (j := 253 - k) (by omega) (by omega)]
    have : ((253 - k : ℕ) : ℤ) - 127 = -((k : ℤ) - 126) := by omega
    rw [this]

end Cert.Scale

end
-- ==== Proof.Spec.lean ====
/- The numbers that the problem's results are made of, and the groups of the kernel's body read off at one place. -/
module

public import proofs.«01_k».proof.Proof.Lists
public import proofs.«01_k».proof.Proof.Pow2
public import Idealize.ShloMosaic.Lib.Pointwise

@[expose] public section

noncomputable section

namespace Cert.Spec

open Idealize.ShloMosaic Cert.Scale

/-- The amplitude of a list of numbers. -/
def amp {K : ℕ} (v : Fin K → EReal) : EReal :=
  Finset.fold max (Ideal.ofBits .f32 0xFF800000#32) (fun x => FloatOps.absf (F := Ideal) (φ := .f32) (v x)) Finset.univ

/-- A number clipped to the range of the codes. -/
def clip (v : EReal) : EReal := min (Ideal.ofBits .f32 0x43E00000#32) (max (Ideal.ofBits .f32 0xC3E00000#32) v)

/-- The codes of a list of numbers. -/
def codes {K : ℕ} (v : Fin K → EReal) (z : Fin K) : EReal := clip (v z * inv1 (amp v))

/-- The scale of a list of numbers. -/
def scale {K : ℕ} (v : Fin K → EReal) : EReal := scale1 (amp v)

/-- A scaled inner product. -/
def lin {K : ℕ} (x : Fin K → EReal) (xs : EReal) (w : Fin K → EReal) (s : EReal) : EReal := (∑ k, x k * w k) * xs * s

/-- The gated activation of a gate and a value. -/
def geglu (g u : EReal) : EReal :=
  g * (Ideal.ofBits .f32 0x3F000000#32 * (1 + Ideal.tanh (Ideal.ofBits .f32 0x3F4C422A#32 *
    (g + Ideal.ofBits .f32 0x3D372713#32 * (g * g * g))))) * u

end Cert.Spec

namespace Cert.KernelIdeal.Gen

open Idealize.ShloMosaic Cert.Scale Cert.Spec

/-- The activation at row `R` and column `C` of a block, from what the windows hold. -/
def hB (X9 : Vec Ideal S1024x2560 .fp8e4m3) (X10 : Vec Ideal S1024x1 .f32) (X3 X4 : Vec Ideal S2560x512 .fp8e4m3)
    (X5 X6 : Vec Ideal S1x512 .f32) (R : Fin 1024) (C : Fin 512) : EReal :=
  geglu (lin (fun k : Fin 2560 => X9 (ix2 R k)) (X10 (ix2 R 0)) (fun k => X3 (ix2 k C)) (X5 (ix2 0 C)))
    (lin (fun k : Fin 2560 => X9 (ix2 R k)) (X10 (ix2 R 0)) (fun k => X4 (ix2 k C)) (X6 (ix2 0 C)))

theorem ladStep_at {s : Shape} (v : FVec Ideal s .f32) (b : BitVec 32) (p : IVec s 32) (j : s.Idx) :
    ladStep v b p j = step1 (v j) b (p j) := rfl

theorem ladder_at {s : Shape} (v : FVec Ideal s .f32) (j : s.Idx) : ladder v j = ladder1 (v j) := by
  unfold ladder ladder1
  have z : broadcast s 0#32 j = 0#32 := rfl
  rw [ladStep_at, ladStep_at, ladStep_at, ladStep_at, ladStep_at, ladStep_at, ladStep_at, ladStep_at, z]

theorem scaleBits_aux {s : Shape} (a : FVec Ideal s .f32) (L : IVec s 32) (j : s.Idx) :
    (let r := addi (select (cmpf .ole a (broadcast s (Scalar.ofBits (F := Ideal) .f32 0x7F7FFFFF#32))) L (broadcast s 2139095040#32))
        (broadcast s 8388608#32);
      select (cmpi .sgt r (broadcast s 8388608#32)) r (broadcast s 1065353216#32)) j =
    (let r := IntOp.addi (Scalar.select (FloatOps.cmpf (F := Ideal) (φ := .f32) .ole (a j)
        (FloatOps.ofBits (F := Ideal) .f32 0x7F7FFFFF#32)) (L j) 2139095040#32) 8388608#32;
      Scalar.select (IntOp.cmpi .sgt r 8388608#32) r 1065353216#32) := rfl

theorem scaleBits_at {s : Shape} (a : FVec Ideal s .f32) (j : s.Idx) : scaleBits a j = bits1 (a j) := by
  have h := ladder_at (mulf a (broadcast s (Scalar.ofBits (F := Ideal) .f32 0x3B124925#32))) j
  unfold scaleBits bits1
  refine (scaleBits_aux a _ j).trans ?_
  rw [h]
  rfl

theorem vScale_at {s : Shape} (a : FVec Ideal s .f32) (j : s.Idx) : vScale a j = scale1 (a j) := by
  unfold scale1; rw [← scaleBits_at]; rfl

theorem vInv_at {s : Shape} (a : FVec Ideal s .f32) (j : s.Idx) : vInv a j = inv1 (a j) := by
  unfold inv1; rw [← scaleBits_at]; rfl

theorem gAmax_at (h : FVec Ideal S256x128 .f32) (r : Fin 256) (z : Fin 1) :
    gAmax h (ix2 r z) = amp (fun x : Fin 128 => h (ix2 r x)) := by
  pointwise [gAmax]; rfl

/-- The codes of a group at one place. -/
theorem gCodes_at (h : FVec Ideal S256x128 .f32) (r : Fin 256) (z : Fin 128) :
    gCodes h (ix2 r z) = codes (fun x : Fin 128 => h (ix2 r x)) z := by
  pointwise [gCodes]
  rw [vInv_at, gAmax_at]; rfl

/-- The scales' block after a group, at one place. -/
theorem gSel_at (n : BitVec 32) (h : FVec Ideal S256x128 .f32) (o : Vec Ideal S256x80 .f32) (r : Fin 256) (z : Fin 80) :
    gSel n h o (ix2 r z) = if BitVec.ofNat 32 z.val = n then scale (fun x : Fin 128 => h (ix2 r x)) else o (ix2 r z) := by
  pointwise [gSel]
  rw [vScale_at, gAmax_at]
  split
  · next c => rw [c]; simp [Scalar.select, IntOp.cmpi, scale]
  · next c =>
    have e : (BitVec.ofNat 32 z.val == n) = false := by simpa using c
    simp [Scalar.select, IntOp.cmpi, e]

/-- The activations of a group at one place. -/
theorem gHof_at (off : ℕ) (hs : S256x256.Slices ![0, off] S256x128) (x : Vec Ideal S256x2560 .fp8e4m3)
    (xs : Vec Ideal S256x1 .f32) (wg wu : Vec Ideal S2560x256 .fp8e4m3) (sg su : Vec Ideal S1x128 .f32)
    (r : Fin 256) (z : Fin 128) (c : Fin 256) (hc : c.val = off + z.val) :
    gHof (F := Ideal) ![0, off] hs x xs wg wu sg su (ix2 r z) =
      geglu (lin (fun k : Fin 2560 => x (ix2 r k)) (xs (ix2 r 0)) (fun k => wg (ix2 k c)) (sg (ix2 0 z)))
        (lin (fun k : Fin 2560 => x (ix2 r k)) (xs (ix2 r 0)) (fun k => wu (ix2 k c)) (su (ix2 0 z))) := by
  pointwise [gHof, gH, gScaled, gAcc]
  have e : ∀ h : off + z.val < 256, (⟨off + z.val, h⟩ : Fin 256) = c := fun h => Fin.ext hc.symm
  simp only [e]
  rfl

/-- A box of an array, read at one place. -/
theorem ld_at {n0 n1 o0 o1 s0 s1 : ℕ} {e : EltTy} (X : Vec Ideal ⟨2, ![n0, n1]⟩ e)
    (h : ∀ a, (![o0, o1] : Fin 2 → ℕ) a + (![s0, s1] : Fin 2 → ℕ) a ≤ (⟨2, ![n0, n1]⟩ : Shape).size a) (p : Fin s0) (q : Fin s1)
    (P : Fin n0) (Q : Fin n1) (hP : P.val = o0 + p.val) (hQ : Q.val = o1 + q.val) :
    View.ld X (Rect.unit (s := ⟨2, ![n0, n1]⟩) ![o0, o1] ![s0, s1] h) (ix2 p q) = X (ix2 P Q) := by
  show X _ = X _
  congr 1
  refine Shape.idx_ext₂ ?_ ?_
  · exact (congrArg (o0 + ·) (Nat.one_mul _)).trans hP.symm
  · exact (congrArg (o1 + ·) (Nat.one_mul _)).trans hQ.symm

/-- The activations of a part of a block. -/
theorem gPart_at (X9 : Vec Ideal S1024x2560 .fp8e4m3) (X10 : Vec Ideal S1024x1 .f32) (X3 X4 : Vec Ideal S2560x512 .fp8e4m3)
    (X5 X6 : Vec Ideal S1x512 .f32) (m : Fin 4) (n g : Fin 2) (r : Fin 256) (z : Fin 128) (R : Fin 1024) (C : Fin 512)
    (hR : R.val = 256 * m.val + r.val) (hC : C.val = 256 * n.val + 128 * g.val + z.val) :
    gPart X9 X10 X3 X4 X5 X6 m n g (ix2 r z) = hB X9 X10 X3 X4 X5 X6 R C := by
  have hg := g.isLt
  unfold gPart
  rw [gHof_at _ _ _ _ _ _ _ _ r z ⟨128 * g.val + z.val, by omega⟩ rfl]
  have e9 := fun k : Fin 2560 => ld_at X9 (by fin_cases m <;> decide) r k R k hR (Nat.zero_add _).symm
  have e10 := ld_at X10 (by fin_cases m <;> decide) r (0 : Fin 1) R 0 hR rfl
  have e3 := fun k : Fin 2560 => ld_at (o1 := 256 * n.val) X3 (by fin_cases n <;> decide) k
    (⟨128 * g.val + z.val, by omega⟩ : Fin 256) k C (Nat.zero_add _).symm (by rw [hC]; exact Nat.add_assoc _ _ _)
  have e4 := fun k : Fin 2560 => ld_at (o1 := 256 * n.val) X4 (by fin_cases n <;> decide) k
    (⟨128 * g.val + z.val, by omega⟩ : Fin 256) k C (Nat.zero_add _).symm (by rw [hC]; exact Nat.add_assoc _ _ _)
  have e5 := ld_at X5 (by fin_cases n <;> fin_cases g <;> decide) (0 : Fin 1) z 0 C rfl hC
  have e6 := ld_at X6 (by fin_cases n <;> fin_cases g <;> decide) (0 : Fin 1) z 0 C rfl hC
  unfold hB
  exact congrArg₂ geglu
    (congr (congr (congr (congrArg lin (funext e9)) e10) (funext e3)) e5)
    (congr (congr (congr (congrArg lin (funext e9)) e10) (funext e4)) e6)

end Cert.KernelIdeal.Gen

end
-- ==== Proof.Blocks.lean ====
/- What the sixteen groups of a grid point leave in the blocks of codes and of scales. -/
module

public import proofs.«01_k».proof.Proof.Spec
public import Idealize.ShloMosaic.Lib.WritesUnit

@[expose] public section

noncomputable section

namespace Cert.KernelIdeal.Gen

open Idealize.ShloMosaic Cert.Scale Cert.Spec

/-- The code at row `R` and column `C` of a block: that of its group of 128 columns. -/
def cB (X9 : Vec Ideal S1024x2560 .fp8e4m3) (X10 : Vec Ideal S1024x1 .f32) (X3 X4 : Vec Ideal S2560x512 .fp8e4m3)
    (X5 X6 : Vec Ideal S1x512 .f32) (R : Fin 1024) (C : Fin 512) : EReal :=
  codes (fun z : Fin 128 => hB X9 X10 X3 X4 X5 X6 R ⟨128 * (C.val / 128) + z.val, by omega⟩) ⟨C.val % 128, by omega⟩

/-- The scale of row `R` and group `q` of a block. -/
def sB (X9 : Vec Ideal S1024x2560 .fp8e4m3) (X10 : Vec Ideal S1024x1 .f32) (X3 X4 : Vec Ideal S2560x512 .fp8e4m3)
    (X5 X6 : Vec Ideal S1x512 .f32) (R : Fin 1024) (q : Fin 4) : EReal :=
  scale (fun z : Fin 128 => hB X9 X10 X3 X4 X5 X6 R ⟨128 * q.val + z.val, by omega⟩)

section
variable (X9 : Vec Ideal S1024x2560 .fp8e4m3) (X10 : Vec Ideal S1024x1 .f32) (X3 X4 : Vec Ideal S2560x512 .fp8e4m3)
  (X5 X6 : Vec Ideal S1x512 .f32)

/-- The sixteen places of a group in a block, last first. -/
def places : List (Fin 4 × Fin 2 × Fin 2) :=
  [(3, 1, 1), (3, 1, 0), (3, 0, 1), (3, 0, 0), (2, 1, 1), (2, 1, 0), (2, 0, 1), (2, 0, 0),
    (1, 1, 1), (1, 1, 0), (1, 0, 1), (1, 0, 0), (0, 1, 1), (0, 1, 0), (0, 0, 1), (0, 0, 0)]

theorem mem_places : ∀ x : Fin 4 × Fin 2 × Fin 2, x ∈ places := by decide

theorem lCodes_eq : lCodes X9 X10 X3 X4 X5 X6 = places.map fun x => pCodes X9 X10 X3 X4 X5 X6 x.1 x.2.1 x.2.2 := rfl

/-- A group's codes at one place of the block. -/
theorem gCodes_gPart (m : Fin 4) (n g : Fin 2) (r : Fin 256) (z : Fin 128) (R : Fin 1024) (C : Fin 512)
    (hR : R.val = 256 * m.val + r.val) (hC : C.val = 256 * n.val + 128 * g.val + z.val) :
    gCodes (gPart X9 X10 X3 X4 X5 X6 m n g) (ix2 r z) = cB X9 X10 X3 X4 X5 X6 R C := by
  rw [gCodes_at]
  unfold cB
  have hz : (⟨C.val % 128, by omega⟩ : Fin 128) = z := Fin.ext (by show C.val % 128 = z.val; omega)
  rw [hz]
  refine congrArg (fun v : Fin 128 → EReal => codes v z) (funext fun x => ?_)
  exact gPart_at X9 X10 X3 X4 X5 X6 m n g r x R _ hR (by show 128 * (C.val / 128) + x.val = _; omega)

/-- What a view reads after the sixteen stores of codes. -/
theorem read_lCodes {sp : Space} (v : View sig .tc sp S1024x512 .fp8e4m3) (f : v.ty.Contents (Elt Ideal)) (R : Fin 1024) (C : Fin 512) :
    v.read (Elt Ideal) (v.writes (Elt Ideal) f (lCodes X9 X10 X3 X4 X5 X6)) (ix2 R C) = cB X9 X10 X3 X4 X5 X6 R C := by
  refine View.read_writes_apply_of_pieces v f (fun y : S1024x512.Idx => cB X9 X10 X3 X4 X5 X6 (y 0) (y 1)) _ ?_ (ix2 R C) ?_
  · intro p hp x
    rw [lCodes_eq, List.mem_map] at hp
    obtain ⟨⟨m, n, g⟩, -, rfl⟩ := hp
    show gCodes (gPart X9 X10 X3 X4 X5 X6 m n g) x = _
    refine (congrArg _ (eq_ix2 (n0 := 256) (n1 := 128) x)).trans (gCodes_gPart X9 X10 X3 X4 X5 X6 m n g _ _ _ _ ?_ ?_)
    · show 256 * m.val + 1 * (x 0).val = _; rw [Nat.one_mul]
    · show 256 * n.val + 128 * g.val + 1 * (x 1).val = _; rw [Nat.one_mul]
  · have hR := R.isLt
    have hC := C.isLt
    refine ⟨pCodes X9 X10 X3 X4 X5 X6 ⟨R.val / 256, by omega⟩ ⟨C.val / 256, by omega⟩ ⟨C.val % 256 / 128, by omega⟩, ?_, ?_⟩
    · rw [lCodes_eq, List.mem_map]
      exact ⟨_, mem_places (⟨R.val / 256, by omega⟩, ⟨C.val / 256, by omega⟩, ⟨C.val % 256 / 128, by omega⟩), rfl⟩
    · unfold pCodes
      rw [Rect.mem_set_unit]
      refine Fin.forall_fin_two.mpr ⟨?_, ?_⟩
      · show 256 * (R.val / 256) ≤ R.val ∧ R.val < 256 * (R.val / 256) + 256
        omega
      · show 256 * (C.val / 256) + 128 * (C.val % 256 / 128) ≤ C.val ∧
          C.val < 256 * (C.val / 256) + 128 * (C.val % 256 / 128) + 128
        omega

/-- The scales' block after the first `k` groups of column `j`, over `base`. -/
def val (j : ℕ) (base : Fin 1024 → Fin 80 → EReal) (k : ℕ) (R : Fin 1024) (l : Fin 80) : EReal :=
  if h : 4 * j ≤ l.val ∧ l.val < 4 * j + 4 ∧ 4 * (R.val / 256) + (l.val - 4 * j) < k then
    sB X9 X10 X3 X4 X5 X6 R ⟨l.val - 4 * j, by omega⟩ else base R l

/-- The stores `L` leave the first `k` groups' scales, on every row (`D`) or on the rows that some of them reached. -/
def Holds {sp : Space} (v : View sig .tc sp S1024x80 .f32) (j : ℕ) (base : Fin 1024 → Fin 80 → EReal) (D : Prop) (k : ℕ)
    (L : List (View.Piece (Elt Ideal) S1024x80 .f32)) : Prop :=
  ∀ (f : v.ty.Contents (Elt Ideal)) (R : Fin 1024) (l : Fin 80), (D ∨ 4 * (R.val / 256) < k) →
    v.read (Elt Ideal) (v.writes (Elt Ideal) f L) (ix2 R l) = val X9 X10 X3 X4 X5 X6 j base k R l

theorem laneOf_eq (j : ℕ) (n g : Fin 2) : laneOf j n g = BitVec.ofNat 32 (4 * j + 2 * n.val + g.val) := by
  show BitVec.ofNat 32 j * 4#32 + BitVec.ofNat 32 (2 * n.val) + BitVec.ofNat 32 g.val = _
  rw [Nat.mul_comm 4 j]
  simp only [BitVec.ofNat_add, BitVec.ofNat_mul]

/-- A group's store over a value that held the groups before it. -/
theorem holds_step {sp : Space} (v : View sig .tc sp S1024x80 .f32) {j : ℕ} (hj : j < 20) {base : Fin 1024 → Fin 80 → EReal} {D : Prop}
    {k : ℕ} {L : List (View.Piece (Elt Ideal) S1024x80 .f32)} (m : Fin 4) (n g : Fin 2) (hk : k = 4 * m.val + 2 * n.val + g.val)
    (old : Vec Ideal S256x80 .f32)
    (ho : ∀ (r : Fin 256) (l : Fin 80) (R : Fin 1024), R.val = 256 * m.val + r.val →
      old (ix2 r l) = val X9 X10 X3 X4 X5 X6 j base k R l)
    (hL : Holds X9 X10 X3 X4 X5 X6 v j base D k L) :
    Holds X9 X10 X3 X4 X5 X6 v j base D (k + 1) (pScale j X9 X10 X3 X4 X5 X6 m n g old :: L) := by
  intro f R l hD
  have hm := m.isLt
  have hn := n.isLt
  have hg := g.isLt
  have hR := R.isLt
  have hl := l.isLt
  unfold pScale rScale
  by_cases hmR : R.val / 256 = m.val
  · refine (View.read_writes_cons_unit_of_mem (off := ![256 * m.val, 0]) (off' := ![256 * m.val, 0]) (size := S256x80.size) v f _ _ L (ix2 R l)
      (ix2 (⟨R.val - 256 * m.val, by omega⟩ : Fin 256) l : (⟨2, ![256, 80]⟩ : Shape).Idx) rfl
      (Fin.forall_fin_two.mpr ⟨by show R.val = 256 * m.val + (R.val - 256 * m.val); omega, (Nat.zero_add _).symm⟩)).trans ?_
    rw [gSel_at, laneOf_eq]
    have e : BitVec.ofNat 32 l.val = BitVec.ofNat 32 (4 * j + 2 * n.val + g.val) ↔ l.val = 4 * j + 2 * n.val + g.val := by
      constructor
      · intro h
        have := congrArg BitVec.toNat h
        rw [BitVec.toNat_ofNat, BitVec.toNat_ofNat, Nat.mod_eq_of_lt (by omega), Nat.mod_eq_of_lt (by omega)] at this
        exact this
      · exact fun h => by rw [h]
    by_cases c : l.val = 4 * j + 2 * n.val + g.val
    · rw [if_pos (e.mpr c)]
      unfold val
      rw [dif_pos (by omega)]
      unfold sB
      refine congrArg scale (funext fun x => ?_)
      exact gPart_at X9 X10 X3 X4 X5 X6 m n g _ x R _ (by show R.val = 256 * m.val + (R.val - 256 * m.val); omega)
        (by show 128 * (l.val - 4 * j) + x.val = _; omega)
    · rw [if_neg (fun h => c (e.mp h)), ho _ l R (by show R.val = 256 * m.val + (R.val - 256 * m.val); omega)]
      unfold val
      by_cases c2 : 4 * j ≤ l.val ∧ l.val < 4 * j + 4 ∧ 4 * (R.val / 256) + (l.val - 4 * j) < k
      · rw [dif_pos c2, dif_pos (by omega)]
      · rw [dif_neg c2, dif_neg (by omega)]
  · refine (View.read_writes_cons_unit_of_not_mem (off := ![256 * m.val, 0]) (off' := ![256 * m.val, 0]) (size := S256x80.size) v f _ _ L (ix2 R l)
      rfl 0 (by show R.val < 256 * m.val ∨ 256 * m.val + 256 ≤ R.val; omega)).trans ?_
    rw [hL f R l (hD.imp_right (by omega))]
    unfold val
    by_cases c2 : 4 * j ≤ l.val ∧ l.val < 4 * j + 4 ∧ 4 * (R.val / 256) + (l.val - 4 * j) < k
    · rw [dif_pos c2, dif_pos (by omega)]
    · rw [dif_neg c2, dif_neg (by omega)]

/-- The place of a row of a band. -/
theorem band_idx (m : Fin 4) (r : Fin 256) (l : Fin 80) (R : Fin 1024) (h : R.val = 256 * m.val + r.val) :
    (rScale m).toLoadRect.idx (ix2 r l : (⟨2, ![256, 80]⟩ : Shape).Idx) = ix2 R l := by
  refine Shape.idx_ext₂ ?_ ?_
  · exact (congrArg (256 * m.val + ·) (Nat.one_mul _)).trans h.symm
  · exact (congrArg (0 + ·) (Nat.one_mul _)).trans (Nat.zero_add _)

/-- A group's store over what the stores before it left. -/
theorem holds_cov {arg8 : Memref sig .tc .vmem S1024x80 .f32} {j : ℕ} (hj : j < 20) {base : Fin 1024 → Fin 80 → EReal} {D : Prop}
    {k : ℕ} {L : List (View.Piece (Elt Ideal) S1024x80 .f32)} (m : Fin 4) (n g : Fin 2) (hk : k = 4 * m.val + 2 * n.val + g.val)
    (hD : D ∨ 4 * m.val < k) (hL : Holds X9 X10 X3 X4 X5 X6 arg8.view j base D k L) :
    Holds X9 X10 X3 X4 X5 X6 arg8.view j base D (k + 1)
      (pScale j X9 X10 X3 X4 X5 X6 m n g (arg8.view.readCov L (rScale m).toLoadRect) :: L) := by
  refine holds_step X9 X10 X3 X4 X5 X6 arg8.view hj m n g hk _ (fun r l R h => ?_) hL
  refine (congrArg _ (band_idx m r l R h)).trans (hL _ R l (hD.imp_right ?_))
  omega

/-- The first store of a band of rows, over what the block held. -/
theorem holds_at {arg8 : Memref sig .tc .vmem S1024x80 .f32} {j : ℕ} (hj : j < 20) (f8 : BufTy.Contents (Elt Ideal) arg8.view.ty) {D : Prop}
    {k : ℕ} {L : List (View.Piece (Elt Ideal) S1024x80 .f32)} (m : Fin 4) (hk : k = 4 * m.val)
    (hL : Holds X9 X10 X3 X4 X5 X6 arg8.view j (fun R l => arg8.view.read (Elt Ideal) f8 (ix2 R l)) D k L) :
    Holds X9 X10 X3 X4 X5 X6 arg8.view j (fun R l => arg8.view.read (Elt Ideal) f8 (ix2 R l)) D (k + 1)
      (pScale j X9 X10 X3 X4 X5 X6 m 0 0 (arg8.view.readAt (Elt Ideal) (rScale m).toLoadRect f8) :: L) := by
  refine holds_step X9 X10 X3 X4 X5 X6 arg8.view hj m 0 0 (by rw [hk]; rfl) _ (fun r l R h => ?_) hL
  refine (congrArg (arg8.view.read (Elt Ideal) f8) (band_idx m r l R h)).trans ?_
  unfold val
  rw [dif_neg (by omega)]

/-- At a later column the sixteen stores leave the groups' scales over what the block held. -/
theorem read_lB16 (arg8 : Memref sig .tc .vmem S1024x80 .f32) {j : ℕ} (hj : j < 20) (f8 f : BufTy.Contents (Elt Ideal) arg8.view.ty)
    (R : Fin 1024) (l : Fin 80) :
    arg8.view.read (Elt Ideal) (arg8.view.writes (Elt Ideal) f (lB16 j arg8 X9 X10 X3 X4 X5 X6 f8)) (ix2 R l) =
      val X9 X10 X3 X4 X5 X6 j (fun R l => arg8.view.read (Elt Ideal) f8 (ix2 R l)) 16 R l := by
  have h0 : Holds X9 X10 X3 X4 X5 X6 arg8.view j (fun R l => arg8.view.read (Elt Ideal) f8 (ix2 R l)) False 0 [] :=
    fun f R l h => absurd h (by rintro (h | h); exacts [h, absurd h (Nat.not_lt_zero _)])
  have h1 : Holds X9 X10 X3 X4 X5 X6 arg8.view j _ False 1 (lB1 j arg8 X9 X10 X3 X4 X5 X6 f8) := holds_at X9 X10 X3 X4 X5 X6 hj f8 0 rfl h0
  have h2 : Holds X9 X10 X3 X4 X5 X6 arg8.view j _ False 2 (lB2 j arg8 X9 X10 X3 X4 X5 X6 f8) := holds_cov X9 X10 X3 X4 X5 X6 hj 0 0 1 rfl (.inr (by decide)) h1
  have h3 : Holds X9 X10 X3 X4 X5 X6 arg8.view j _ False 3 (lB3 j arg8 X9 X10 X3 X4 X5 X6 f8) := holds_cov X9 X10 X3 X4 X5 X6 hj 0 1 0 rfl (.inr (by decide)) h2
  have h4 : Holds X9 X10 X3 X4 X5 X6 arg8.view j _ False 4 (lB4 j arg8 X9 X10 X3 X4 X5 X6 f8) := holds_cov X9 X10 X3 X4 X5 X6 hj 0 1 1 rfl (.inr (by decide)) h3
  have h5 : Holds X9 X10 X3 X4 X5 X6 arg8.view j _ False 5 (lB5 j arg8 X9 X10 X3 X4 X5 X6 f8) := holds_at X9 X10 X3 X4 X5 X6 hj f8 1 rfl h4
  have h6 : Holds X9 X10 X3 X4 X5 X6 arg8.view j _ False 6 (lB6 j arg8 X9 X10 X3 X4 X5 X6 f8) := holds_cov X9 X10 X3 X4 X5 X6 hj 1 0 1 rfl (.inr (by decide)) h5
  have h7 : Holds X9 X10 X3 X4 X5 X6 arg8.view j _ False 7 (lB7 j arg8 X9 X10 X3 X4 X5 X6 f8) := holds_cov X9 X10 X3 X4 X5 X6 hj 1 1 0 rfl (.inr (by decide)) h6
  have h8 : Holds X9 X10 X3 X4 X5 X6 arg8.view j _ False 8 (lB8 j arg8 X9 X10 X3 X4 X5 X6 f8) := holds_cov X9 X10 X3 X4 X5 X6 hj 1 1 1 rfl (.inr (by decide)) h7
  have h9 : Holds X9 X10 X3 X4 X5 X6 arg8.view j _ False 9 (lB9 j arg8 X9 X10 X3 X4 X5 X6 f8) := holds_at X9 X10 X3 X4 X5 X6 hj f8 2 rfl h8
  have h10 : Holds X9 X10 X3 X4 X5 X6 arg8.view j _ False 10 (lB10 j arg8 X9 X10 X3 X4 X5 X6 f8) := holds_cov X9 X10 X3 X4 X5 X6 hj 2 0 1 rfl (.inr (by decide)) h9
  have h11 : Holds X9 X10 X3 X4 X5 X6 arg8.view j _ False 11 (lB11 j arg8 X9 X10 X3 X4 X5 X6 f8) := holds_cov X9 X10 X3 X4 X5 X6 hj 2 1 0 rfl (.inr (by decide)) h10
  have h12 : Holds X9 X10 X3 X4 X5 X6 arg8.view j _ False 12 (lB12 j arg8 X9 X10 X3 X4 X5 X6 f8) := holds_cov X9 X10 X3 X4 X5 X6 hj 2 1 1 rfl (.inr (by decide)) h11
  have h13 : Holds X9 X10 X3 X4 X5 X6 arg8.view j _ False 13 (lB13 j arg8 X9 X10 X3 X4 X5 X6 f8) := holds_at X9 X10 X3 X4 X5 X6 hj f8 3 rfl h12
  have h14 : Holds X9 X10 X3 X4 X5 X6 arg8.view j _ False 14 (lB14 j arg8 X9 X10 X3 X4 X5 X6 f8) := holds_cov X9 X10 X3 X4 X5 X6 hj 3 0 1 rfl (.inr (by decide)) h13
  have h15 : Holds X9 X10 X3 X4 X5 X6 arg8.view j _ False 15 (lB15 j arg8 X9 X10 X3 X4 X5 X6 f8) := holds_cov X9 X10 X3 X4 X5 X6 hj 3 1 0 rfl (.inr (by decide)) h14
  have h16 : Holds X9 X10 X3 X4 X5 X6 arg8.view j _ False 16 (lB16 j arg8 X9 X10 X3 X4 X5 X6 f8) := holds_cov X9 X10 X3 X4 X5 X6 hj 3 1 1 rfl (.inr (by decide)) h15
  exact h16 f R l (.inr (by have := R.isLt; omega))

/-- At column 0 the sixteen stores leave the groups' scales over zeros. -/
theorem read_lA16 (arg8 : Memref sig .tc .vmem S1024x80 .f32) {j : ℕ} (hj : j < 20) (f : BufTy.Contents (Elt Ideal) arg8.view.ty)
    (R : Fin 1024) (l : Fin 80) :
    arg8.view.read (Elt Ideal) (arg8.view.writes (Elt Ideal) f (lA16 j arg8 X9 X10 X3 X4 X5 X6)) (ix2 R l) =
      val X9 X10 X3 X4 X5 X6 j (fun _ _ => Ideal.ofBits .f32 0x00000000#32) 16 R l := by
  have h0 : Holds X9 X10 X3 X4 X5 X6 arg8.view j (fun _ _ => Ideal.ofBits .f32 0x00000000#32) True 0 lA0 := by
    intro f R l _
    unfold val lA0
    rw [dif_neg (by omega)]
    refine (View.read_writes_cons_unit_of_mem (off := ![0, 0]) (off' := ![0, 0]) (size := S1024x80.size) arg8.view f _ _ [] (ix2 R l)
      (ix2 R l : (⟨2, ![1024, 80]⟩ : Shape).Idx) rfl
      (Fin.forall_fin_two.mpr ⟨(Nat.zero_add _).symm, (Nat.zero_add _).symm⟩)).trans ?_
    rfl
  have h1 : Holds X9 X10 X3 X4 X5 X6 arg8.view j _ True 1 (lA1 j arg8 X9 X10 X3 X4 X5 X6) := holds_cov X9 X10 X3 X4 X5 X6 hj 0 0 0 rfl (.inl trivial) h0
  have h2 : Holds X9 X10 X3 X4 X5 X6 arg8.view j _ True 2 (lA2 j arg8 X9 X10 X3 X4 X5 X6) := holds_cov X9 X10 X3 X4 X5 X6 hj 0 0 1 rfl (.inl trivial) h1
  have h3 : Holds X9 X10 X3 X4 X5 X6 arg8.view j _ True 3 (lA3 j arg8 X9 X10 X3 X4 X5 X6) := holds_cov X9 X10 X3 X4 X5 X6 hj 0 1 0 rfl (.inl trivial) h2
  have h4 : Holds X9 X10 X3 X4 X5 X6 arg8.view j _ True 4 (lA4 j arg8 X9 X10 X3 X4 X5 X6) := holds_cov X9 X10 X3 X4 X5 X6 hj 0 1 1 rfl (.inl trivial) h3
  have h5 : Holds X9 X10 X3 X4 X5 X6 arg8.view j _ True 5 (lA5 j arg8 X9 X10 X3 X4 X5 X6) := holds_cov X9 X10 X3 X4 X5 X6 hj 1 0 0 rfl (.inl trivial) h4
  have h6 : Holds X9 X10 X3 X4 X5 X6 arg8.view j _ True 6 (lA6 j arg8 X9 X10 X3 X4 X5 X6) := holds_cov X9 X10 X3 X4 X5 X6 hj 1 0 1 rfl (.inl trivial) h5
  have h7 : Holds X9 X10 X3 X4 X5 X6 arg8.view j _ True 7 (lA7 j arg8 X9 X10 X3 X4 X5 X6) := holds_cov X9 X10 X3 X4 X5 X6 hj 1 1 0 rfl (.inl trivial) h6
  have h8 : Holds X9 X10 X3 X4 X5 X6 arg8.view j _ True 8 (lA8 j arg8 X9 X10 X3 X4 X5 X6) := holds_cov X9 X10 X3 X4 X5 X6 hj 1 1 1 rfl (.inl trivial) h7
  have h9 : Holds X9 X10 X3 X4 X5 X6 arg8.view j _ True 9 (lA9 j arg8 X9 X10 X3 X4 X5 X6) := holds_cov X9 X10 X3 X4 X5 X6 hj 2 0 0 rfl (.inl trivial) h8
  have h10 : Holds X9 X10 X3 X4 X5 X6 arg8.view j _ True 10 (lA10 j arg8 X9 X10 X3 X4 X5 X6) := holds_cov X9 X10 X3 X4 X5 X6 hj 2 0 1 rfl (.inl trivial) h9
  have h11 : Holds X9 X10 X3 X4 X5 X6 arg8.view j _ True 11 (lA11 j arg8 X9 X10 X3 X4 X5 X6) := holds_cov X9 X10 X3 X4 X5 X6 hj 2 1 0 rfl (.inl trivial) h10
  have h12 : Holds X9 X10 X3 X4 X5 X6 arg8.view j _ True 12 (lA12 j arg8 X9 X10 X3 X4 X5 X6) := holds_cov X9 X10 X3 X4 X5 X6 hj 2 1 1 rfl (.inl trivial) h11
  have h13 : Holds X9 X10 X3 X4 X5 X6 arg8.view j _ True 13 (lA13 j arg8 X9 X10 X3 X4 X5 X6) := holds_cov X9 X10 X3 X4 X5 X6 hj 3 0 0 rfl (.inl trivial) h12
  have h14 : Holds X9 X10 X3 X4 X5 X6 arg8.view j _ True 14 (lA14 j arg8 X9 X10 X3 X4 X5 X6) := holds_cov X9 X10 X3 X4 X5 X6 hj 3 0 1 rfl (.inl trivial) h13
  have h15 : Holds X9 X10 X3 X4 X5 X6 arg8.view j _ True 15 (lA15 j arg8 X9 X10 X3 X4 X5 X6) := holds_cov X9 X10 X3 X4 X5 X6 hj 3 1 0 rfl (.inl trivial) h14
  have h16 : Holds X9 X10 X3 X4 X5 X6 arg8.view j _ True 16 (lA16 j arg8 X9 X10 X3 X4 X5 X6) := holds_cov X9 X10 X3 X4 X5 X6 hj 3 1 1 rfl (.inl trivial) h15
  exact h16 f R l (.inl trivial)

end

end Cert.KernelIdeal.Gen

end
-- ==== Proof.XQuant.lean ====
/- The quantising loop: what its sixteen trips leave of the input's codes and scales. -/
module

public import proofs.«01_k».proof.Proof.Blocks
public import proofs.«01_k».proof.Proof.Gen.KernelIdeal.Loops
public import Idealize.ShloMosaic.Lib.WritesUnit

@[expose] public section

noncomputable section

namespace Cert.KernelIdeal.Gen

open Idealize.ShloMosaic Idealize.ShloMosaic.TcCoe Cert.Scale Cert.Spec

theorem trips_eq : k0_t1_loop.trips = 16 := by decide +kernel

section
variable {F : FTy → Type} [FloatOps F]

/-- The ladder of a trip is the ladder of the groups. -/
theorem k0_pay6_eq (V : Vec F S64x2560 .bf16) :
    k0_pay6 (k0_pay3 V) (k0_pay4 V) (k0_pay5 V) = scaleBits (k0_pay3 V) := rfl

theorem k0_pay7_eq (V : Vec F S64x2560 .bf16) :
    k0_pay7 (k0_pay3 V) (k0_pay4 V) (k0_pay5 V) = vScale (k0_pay3 V) := by
  unfold k0_pay7 vScale; rw [k0_pay6_eq]

theorem k0_pay8_eq (V : Vec F S64x2560 .bf16) :
    k0_pay8 (k0_pay2 V) (k0_pay3 V) (k0_pay4 V) (k0_pay5 V) =
      truncf .fp8e4m3 (minimumf (broadcast S64x2560 (Scalar.ofBits .f32 0x43E00000#32))
        (maximumf (broadcast S64x2560 (Scalar.ofBits .f32 0xC3E00000#32))
          (mulf (k0_pay2 V) (broadcastTo S64x2560 (vInv (k0_pay3 V)) broadcasts_S64x1_S64x2560)))) bitsLt_fp8e4m3_f32 := by
  unfold k0_pay8 vInv; rw [k0_pay6_eq]

end

/-- A trip's amplitudes at one row. -/
theorem k0_pay3_at (V : Vec Ideal S64x2560 .bf16) (r : Fin 64) (z : Fin 1) :
    k0_pay3 V (ix2 r z) = amp (fun q : Fin 2560 => V (ix2 r q)) := by
  pointwise [k0_pay3, k0_pay2]; rfl

/-- A trip's scales at one row. -/
theorem k0_pay7_at (V : Vec Ideal S64x2560 .bf16) (r : Fin 64) (z : Fin 1) :
    k0_pay7 (k0_pay3 V) (k0_pay4 V) (k0_pay5 V) (ix2 r z) = scale (fun q : Fin 2560 => V (ix2 r q)) := by
  rw [k0_pay7_eq, vScale_at, k0_pay3_at]; rfl

/-- A trip's codes at one place. -/
theorem k0_pay8_at (V : Vec Ideal S64x2560 .bf16) (r : Fin 64) (z : Fin 2560) :
    k0_pay8 (k0_pay2 V) (k0_pay3 V) (k0_pay4 V) (k0_pay5 V) (ix2 r z) = codes (fun q : Fin 2560 => V (ix2 r q)) z := by
  rw [k0_pay8_eq]
  pointwise [k0_pay2]
  rw [vInv_at, k0_pay3_at]; rfl

section
variable (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole)
  (hc0 : cond0_0 i) (f2 : BufTy.Contents (Elt Ideal) arg2.view.ty)

theorem trip_x (k : Fin k0_t1_loop.trips) : (trip_k0_t1 (F := Ideal) Variants.none c none i arg2 harg2 arg3 harg3 arg4 harg4 arg5 harg5 arg6 harg6 arg7 harg7 arg8 harg8 arg9 harg9 arg10 harg10 hc0 f2 k).1 =
    [⟨Rect.unit (s := S1024x2560) (k0_off1 k) S64x2560.size (k0_off1_inb i k hc0),
      k0_pay8 (k0_pay2 (arg2.view.readAt (Elt Ideal) (Rect.unit (s := S1024x2560) (k0_off1 k) S64x2560.size (k0_off1_inb i k hc0)).toLoadRect f2)) (k0_pay3 (arg2.view.readAt (Elt Ideal) (Rect.unit (s := S1024x2560) (k0_off1 k) S64x2560.size (k0_off1_inb i k hc0)).toLoadRect f2)) (k0_pay4 (arg2.view.readAt (Elt Ideal) (Rect.unit (s := S1024x2560) (k0_off1 k) S64x2560.size (k0_off1_inb i k hc0)).toLoadRect f2)) (k0_pay5 (arg2.view.readAt (Elt Ideal) (Rect.unit (s := S1024x2560) (k0_off1 k) S64x2560.size (k0_off1_inb i k hc0)).toLoadRect f2))⟩] := by
  unfold trip_k0_t1; rfl

theorem trip_xs (k : Fin k0_t1_loop.trips) : (trip_k0_t1 (F := Ideal) Variants.none c none i arg2 harg2 arg3 harg3 arg4 harg4 arg5 harg5 arg6 harg6 arg7 harg7 arg8 harg8 arg9 harg9 arg10 harg10 hc0 f2 k).2.1 =
    [⟨Rect.unit (s := S1024x1) (k0_off2 k) S64x1.size (k0_off2_inb i k hc0),
      k0_pay7 (k0_pay3 (arg2.view.readAt (Elt Ideal) (Rect.unit (s := S1024x2560) (k0_off1 k) S64x2560.size (k0_off1_inb i k hc0)).toLoadRect f2)) (k0_pay4 (arg2.view.readAt (Elt Ideal) (Rect.unit (s := S1024x2560) (k0_off1 k) S64x2560.size (k0_off1_inb i k hc0)).toLoadRect f2)) (k0_pay5 (arg2.view.readAt (Elt Ideal) (Rect.unit (s := S1024x2560) (k0_off1 k) S64x2560.size (k0_off1_inb i k hc0)).toLoadRect f2))⟩] := by
  unfold trip_k0_t1; rfl

/-- The rows a trip reads. -/
theorem trip_V (k : Fin k0_t1_loop.trips) (r : Fin 64) (q : Fin 2560) (R : Fin 1024) (hR : R.val = 64 * k.val + r.val) :
    (arg2.view.readAt (Elt Ideal) (Rect.unit (s := S1024x2560) (k0_off1 k) S64x2560.size (k0_off1_inb i k hc0)).toLoadRect f2) (ix2 r q) = arg2.view.read (Elt Ideal) f2 (ix2 R q) := by
  show arg2.view.read (Elt Ideal) f2 _ = _
  congr 1
  have e := k0_off1_eq k
  refine Shape.idx_ext₂ ?_ ?_
  · refine Eq.trans ?_ hR.symm
    exact (congrArg (k0_off1 k 0 + ·) (Nat.one_mul _)).trans (congrArg (· + r.val) (congrFun e 0))
  · exact (congrArg (k0_off1 k 1 + ·) (Nat.one_mul _)).trans ((congrArg (· + q.val) (congrFun e 1)).trans (Nat.zero_add _))

/-- The rows done before trip `k` hold the input's codes. -/
theorem read_x (k : ℕ) (hk : k ≤ 16) (f : BufTy.Contents (Elt Ideal) arg9.view.ty) (R : Fin 1024) (hR : R.val < 64 * k) (C : Fin 2560) :
    arg9.view.read (Elt Ideal) (arg9.view.writes (Elt Ideal) f (pb_k0_t1 (F := Ideal) Variants.none c none i arg2 harg2 arg3 harg3 arg4 harg4 arg5 harg5 arg6 harg6 arg7 harg7 arg8 harg8 arg9 harg9 arg10 harg10 hc0 f2 k).1) (ix2 R C) =
      codes (fun q : Fin 2560 => arg2.view.read (Elt Ideal) f2 (ix2 R q)) C := by
  induction k with
  | zero => exact absurd hR (by omega)
  | succ k ih =>
    have hk' : k < k0_t1_loop.trips := by rw [trips_eq]; omega
    rw [pb_k0_t1_succ (F := Ideal) Variants.none c none i arg2 harg2 arg3 harg3 arg4 harg4 arg5 harg5 arg6 harg6 arg7 harg7 arg8 harg8 arg9 harg9 arg10 harg10 hc0 f2 ⟨k, hk'⟩]
    dsimp only
    rw [trip_x, List.singleton_append]
    by_cases h : R.val < 64 * k
    · refine (View.read_writes_cons_rows_of_not_mem (o := 64 * k) (W := 64) arg9.view f _ _ _ _ (k0_off1_eq ⟨k, hk'⟩) rfl (.inl h)).trans ?_
      exact ih (by omega) h
    · refine (View.read_writes_cons_rows_of_mem (o := 64 * k) arg9.view f _ _ _ _ (ix2 (⟨R.val - 64 * k, by omega⟩ : Fin 64) C : (⟨2, ![64, 2560]⟩ : Shape).Idx)
        (k0_off1_eq ⟨k, hk'⟩) (by show R.val = 64 * k + (R.val - 64 * k); omega) rfl).trans ?_
      rw [k0_pay8_at]
      congr 1
      funext q
      exact trip_V i arg2 hc0 f2 ⟨k, hk'⟩ ⟨R.val - 64 * k, by omega⟩ q R (by show R.val = 64 * k + (R.val - 64 * k); omega)

/-- The rows done before trip `k` hold the input's scales. -/
theorem read_xs (k : ℕ) (hk : k ≤ 16) (f : BufTy.Contents (Elt Ideal) arg10.view.ty) (R : Fin 1024) (hR : R.val < 64 * k) (z : Fin 1) :
    arg10.view.read (Elt Ideal) (arg10.view.writes (Elt Ideal) f (pb_k0_t1 (F := Ideal) Variants.none c none i arg2 harg2 arg3 harg3 arg4 harg4 arg5 harg5 arg6 harg6 arg7 harg7 arg8 harg8 arg9 harg9 arg10 harg10 hc0 f2 k).2) (ix2 R z) =
      scale (fun q : Fin 2560 => arg2.view.read (Elt Ideal) f2 (ix2 R q)) := by
  induction k with
  | zero => exact absurd hR (by omega)
  | succ k ih =>
    have hk' : k < k0_t1_loop.trips := by rw [trips_eq]; omega
    rw [pb_k0_t1_succ (F := Ideal) Variants.none c none i arg2 harg2 arg3 harg3 arg4 harg4 arg5 harg5 arg6 harg6 arg7 harg7 arg8 harg8 arg9 harg9 arg10 harg10 hc0 f2 ⟨k, hk'⟩]
    dsimp only
    rw [trip_xs, List.singleton_append]
    by_cases h : R.val < 64 * k
    · refine (View.read_writes_cons_rows_of_not_mem (o := 64 * k) (W := 64) arg10.view f _ _ _ _ (k0_off2_eq ⟨k, hk'⟩) rfl (.inl h)).trans ?_
      exact ih (by omega) h
    · refine (View.read_writes_cons_rows_of_mem (o := 64 * k) arg10.view f _ _ _ _ (ix2 (⟨R.val - 64 * k, by omega⟩ : Fin 64) z : (⟨2, ![64, 1]⟩ : Shape).Idx)
        (k0_off2_eq ⟨k, hk'⟩) (by show R.val = 64 * k + (R.val - 64 * k); omega) rfl).trans ?_
      rw [k0_pay7_at]
      congr 1
      funext q
      exact trip_V i arg2 hc0 f2 ⟨k, hk'⟩ ⟨R.val - 64 * k, by omega⟩ q R (by show R.val = 64 * k + (R.val - 64 * k); omega)

end

end Cert.KernelIdeal.Gen

end
-- ==== Proof.RunA.lean ====
/- The body at the points of column 0, run once and for all. -/
module

public import proofs.«01_k».proof.Proof.Points
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body at a point of column 0: the quantising loop runs, the scales' block is zeroed, and then every
    group of 128 columns is stored. The lists of stores are the run's own finds, one list per written window. -/
@[irreducible] def runA (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    Σ' (L5 : List (View.Piece (Elt F) S1024x512 .fp8e4m3)) , Σ' (L7 : List (View.Piece (Elt F) S1024x2560 .fp8e4m3)) , Σ' (L8 : List (View.Piece (Elt F) S1024x1 .f32)) , { L6 : List (View.Piece (Elt F) S1024x80 .f32) // ∀ (E : Set ℕ) (f7 : BufTy.Contents (Elt F) arg7.view.ty) (K : PUnit → sProp 𝕄),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} (arg7.view.writes (Elt F) f7 L5)) ∗ (arg8.view.loc (c : Thread nD τ) ↦[arg8.view.set]{fullShare} (arg8.view.writes (Elt F) f8 L6)) ∗ (arg9.view.loc (c : Thread nD τ) ↦[arg9.view.set]{fullShare} (arg9.view.writes (Elt F) f9 L7)) ∗ (arg10.view.loc (c : Thread nD τ) ↦[arg10.view.set]{fullShare} (arg10.view.writes (Elt F) f10 L8))) -∗ K ⟨⟩))
      ⊢ wp frame (wpE (defs₀ (F := F)) Variants.none c none) E (cc0_geglu_gate_up i arg2 harg2 arg3 harg3 arg4 harg4 arg5 harg5 arg6 harg6 arg7 harg7 arg8 harg8 arg9 harg9 arg10 harg10) K } := by
  refine ⟨?_, ?_, ?_, ?_, fun E f7 K => ?run⟩
  case run =>
    simp only [cc0_geglu_gate_up_eq_skeleton]; unfold cc0_geglu_gate_up_skel
    simp only [k0_part42_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    iintro ⟨H2, H3, H4, H5, H6, H7, H8, H9, H10, Hk⟩
    sl_exec (disch := first | sl_exact hc0)
    sl_step
    iapply Hk
    sl_close

end Cert.KernelIdeal.Gen

end
-- ==== Proof.RunB.lean ====
/- The body at the points of the later columns, run once and for all. -/
module

public import proofs.«01_k».proof.Proof.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One run of the body at a point of a later column: only the groups are stored. The two lists of stores (codes and
    scales) are the run's own finds, as functions of what the windows hold. -/
@[irreducible] def runB (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : ¬cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    Σ' (L5 : List (View.Piece (Elt F) S1024x512 .fp8e4m3)) , { L6 : List (View.Piece (Elt F) S1024x80 .f32) // ∀ (E : Set ℕ) (f7 : BufTy.Contents (Elt F) arg7.view.ty) (K : PUnit → sProp 𝕄),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} (arg7.view.writes (Elt F) f7 L5)) ∗ (arg8.view.loc (c : Thread nD τ) ↦[arg8.view.set]{fullShare} (arg8.view.writes (Elt F) f8 L6)) ∗ (arg9.view.loc (c : Thread nD τ) ↦[arg9.view.set]{fullShare} f9) ∗ (arg10.view.loc (c : Thread nD τ) ↦[arg10.view.set]{fullShare} f10)) -∗ K ⟨⟩))
      ⊢ wp frame (wpE (defs₀ (F := F)) Variants.none c none) E (cc0_geglu_gate_up i arg2 harg2 arg3 harg3 arg4 harg4 arg5 harg5 arg6 harg6 arg7 harg7 arg8 harg8 arg9 harg9 arg10 harg10) K } := by
  refine ⟨?_, ?_, fun E f7 K => ?run⟩
  case run =>
    simp only [cc0_geglu_gate_up_eq_skeleton]; unfold cc0_geglu_gate_up_skel
    simp only [k0_part42_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    iintro ⟨H2, H3, H4, H5, H6, H7, H8, H9, H10, Hk⟩
    sl_exec (disch := first | sl_exact hc0)
    sl_step
    iapply Hk
    sl_close

end Cert.KernelIdeal.Gen

end
-- ==== Proof.Found.lean ====
/- The stores that the runs found are the sixteen groups. -/
module

public import proofs.«01_k».proof.Proof.Lists
public import proofs.«01_k».proof.Proof.RunA
public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 100000 in
set_option maxHeartbeats 4000000 in
/-- At a later column the stores of codes are the sixteen groups. -/
theorem runB_codes (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : ¬cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    (runB (F := F) c i arg2 harg2 arg3 harg3 arg4 harg4 arg5 harg5 arg6 harg6 arg7 harg7 arg8 harg8 arg9 harg9 arg10 harg10 hc0 f2 f3 f4 f5 f6 f8 f9 f10).1 = lCodes (arg9.view.read (Elt F) f9) (arg10.view.read (Elt F) f10) (arg3.view.read (Elt F) f3) (arg4.view.read (Elt F) f4) (arg5.view.read (Elt F) f5) (arg6.view.read (Elt F) f6) := by
  unfold runB; rfl

set_option maxRecDepth 100000 in
set_option maxHeartbeats 4000000 in
/-- At a later column the stores of scales are the sixteen groups. -/
theorem runB_scales (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : ¬cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    (runB (F := F) c i arg2 harg2 arg3 harg3 arg4 harg4 arg5 harg5 arg6 harg6 arg7 harg7 arg8 harg8 arg9 harg9 arg10 harg10 hc0 f2 f3 f4 f5 f6 f8 f9 f10).2.1 = lB16 (i 1).val arg8 (arg9.view.read (Elt F) f9) (arg10.view.read (Elt F) f10) (arg3.view.read (Elt F) f3) (arg4.view.read (Elt F) f4) (arg5.view.read (Elt F) f5) (arg6.view.read (Elt F) f6) f8 := by
  unfold runB; rfl

set_option maxRecDepth 100000 in
set_option maxHeartbeats 4000000 in
/-- At column 0 the stores of codes are the sixteen groups, over the rows just quantised. -/
theorem runA_codes (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    (runA (F := F) c i arg2 harg2 arg3 harg3 arg4 harg4 arg5 harg5 arg6 harg6 arg7 harg7 arg8 harg8 arg9 harg9 arg10 harg10 hc0 f2 f3 f4 f5 f6 f8 f9 f10).1 = lCodes (arg9.view.read (Elt F) (arg9.view.writes (Elt F) f9 (pb_k0_t1 (F := F) Variants.none c none i arg2 harg2 arg3 harg3 arg4 harg4 arg5 harg5 arg6 harg6 arg7 harg7 arg8 harg8 arg9 harg9 arg10 harg10 hc0 f2 16).1)) (arg10.view.read (Elt F) (arg10.view.writes (Elt F) f10 (pb_k0_t1 (F := F) Variants.none c none i arg2 harg2 arg3 harg3 arg4 harg4 arg5 harg5 arg6 harg6 arg7 harg7 arg8 harg8 arg9 harg9 arg10 harg10 hc0 f2 16).2)) (arg3.view.read (Elt F) f3) (arg4.view.read (Elt F) f4) (arg5.view.read (Elt F) f5) (arg6.view.read (Elt F) f6) := by
  unfold runA; rfl

set_option maxRecDepth 100000 in
set_option maxHeartbeats 4000000 in
/-- At column 0 the stores of the input's codes are the loop's. -/
theorem runA_x (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    (runA (F := F) c i arg2 harg2 arg3 harg3 arg4 harg4 arg5 harg5 arg6 harg6 arg7 harg7 arg8 harg8 arg9 harg9 arg10 harg10 hc0 f2 f3 f4 f5 f6 f8 f9 f10).2.1 = (pb_k0_t1 (F := F) Variants.none c none i arg2 harg2 arg3 harg3 arg4 harg4 arg5 harg5 arg6 harg6 arg7 harg7 arg8 harg8 arg9 harg9 arg10 harg10 hc0 f2 16).1 := by
  unfold runA; rfl

set_option maxRecDepth 100000 in
set_option maxHeartbeats 4000000 in
/-- At column 0 the stores of the input's scales are the loop's. -/
theorem runA_xs (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    (runA (F := F) c i arg2 harg2 arg3 harg3 arg4 harg4 arg5 harg5 arg6 harg6 arg7 harg7 arg8 harg8 arg9 harg9 arg10 harg10 hc0 f2 f3 f4 f5 f6 f8 f9 f10).2.2.1 = (pb_k0_t1 (F := F) Variants.none c none i arg2 harg2 arg3 harg3 arg4 harg4 arg5 harg5 arg6 harg6 arg7 harg7 arg8 harg8 arg9 harg9 arg10 harg10 hc0 f2 16).2 := by
  unfold runA; rfl

set_option maxRecDepth 100000 in
set_option maxHeartbeats 4000000 in
/-- At column 0 the stores of scales are the sixteen groups over zeros. -/
theorem runA_scales (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : cond0_0 i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty) :
    (runA (F := F) c i arg2 harg2 arg3 harg3 arg4 harg4 arg5 harg5 arg6 harg6 arg7 harg7 arg8 harg8 arg9 harg9 arg10 harg10 hc0 f2 f3 f4 f5 f6 f8 f9 f10).2.2.2.1 = lA16 (i 1).val arg8 (arg9.view.read (Elt F) (arg9.view.writes (Elt F) f9 (pb_k0_t1 (F := F) Variants.none c none i arg2 harg2 arg3 harg3 arg4 harg4 arg5 harg5 arg6 harg6 arg7 harg7 arg8 harg8 arg9 harg9 arg10 harg10 hc0 f2 16).1)) (arg10.view.read (Elt F) (arg10.view.writes (Elt F) f10 (pb_k0_t1 (F := F) Variants.none c none i arg2 harg2 arg3 harg3 arg4 harg4 arg5 harg5 arg6 harg6 arg7 harg7 arg8 harg8 arg9 harg9 arg10 harg10 hc0 f2 16).2)) (arg3.view.read (Elt F) f3) (arg4.view.read (Elt F) f4) (arg5.view.read (Elt F) f5) (arg6.view.read (Elt F) f6) := by
  unfold runA; rfl

end Cert.KernelIdeal.Gen

end
-- ==== Proof.Body.lean ====
/- What the body leaves in its windows at a grid point, from what it finds there. -/
module

public import proofs.«01_k».proof.Proof.XQuant
public import proofs.«01_k».proof.Proof.Found

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Scale Cert.Spec

local notation "𝕄" => MT nD τ sig Unit (Elt Ideal) ℕ (UR sig nD τ) ℕ

/-- The codes of the rows of a block of the input. -/
def qC (X : Vec Ideal S1024x2560 .bf16) : Vec Ideal S1024x2560 .fp8e4m3 :=
  fun y => codes (fun q : Fin 2560 => X (ix2 (y 0) q)) (y 1)

/-- The scales of the rows of a block of the input. -/
def qS (X : Vec Ideal S1024x2560 .bf16) : Vec Ideal S1024x1 .f32 := fun y => scale (fun q : Fin 2560 => X (ix2 (y 0) q))

section
variable (X9 : Vec Ideal S1024x2560 .fp8e4m3) (X10 : Vec Ideal S1024x1 .f32) (X3 X4 : Vec Ideal S2560x512 .fp8e4m3)
  (X5 X6 : Vec Ideal S1x512 .f32)

/-- The block of codes a point leaves. -/
def oC : Vec Ideal S1024x512 .fp8e4m3 := fun y => cB X9 X10 X3 X4 X5 X6 (y 0) (y 1)

/-- The block of scales a point of column `j` leaves over `base`. -/
def oS (j : ℕ) (base : Vec Ideal S1024x80 .f32) : Vec Ideal S1024x80 .f32 :=
  fun y => val X9 X10 X3 X4 X5 X6 j (fun R l => base (ix2 R l)) 16 (y 0) (y 1)

theorem lCodes_oC {sp : Space} (v : View sig .tc sp S1024x512 .fp8e4m3) (f : v.ty.Contents (Elt Ideal)) :
    v.read (Elt Ideal) (v.writes (Elt Ideal) f (lCodes X9 X10 X3 X4 X5 X6)) = oC X9 X10 X3 X4 X5 X6 := by
  funext y
  exact (congrArg _ (eq_ix2 (n0 := 1024) (n1 := 512) y)).trans (read_lCodes X9 X10 X3 X4 X5 X6 v f (y 0) (y 1))

theorem lB16_oS (arg8 : Memref sig .tc .vmem S1024x80 .f32) {j : ℕ} (hj : j < 20) (f8 f : BufTy.Contents (Elt Ideal) arg8.view.ty) :
    arg8.view.read (Elt Ideal) (arg8.view.writes (Elt Ideal) f (lB16 j arg8 X9 X10 X3 X4 X5 X6 f8)) =
      oS X9 X10 X3 X4 X5 X6 j (arg8.view.read (Elt Ideal) f8) := by
  funext y
  exact (congrArg _ (eq_ix2 (n0 := 1024) (n1 := 80) y)).trans (read_lB16 X9 X10 X3 X4 X5 X6 arg8 hj f8 f (y 0) (y 1))

theorem lA16_oS (arg8 : Memref sig .tc .vmem S1024x80 .f32) {j : ℕ} (hj : j < 20) (f : BufTy.Contents (Elt Ideal) arg8.view.ty) :
    arg8.view.read (Elt Ideal) (arg8.view.writes (Elt Ideal) f (lA16 j arg8 X9 X10 X3 X4 X5 X6)) =
      oS X9 X10 X3 X4 X5 X6 j (fun _ => Ideal.ofBits .f32 0x00000000#32) := by
  funext y
  exact (congrArg _ (eq_ix2 (n0 := 1024) (n1 := 80) y)).trans (read_lA16 X9 X10 X3 X4 X5 X6 arg8 hj f (y 0) (y 1))

end

section
variable (c : Dev nD) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole)
  (hc0 : cond0_0 i) (f2 : BufTy.Contents (Elt Ideal) arg2.view.ty)

theorem pb_qC (f : BufTy.Contents (Elt Ideal) arg9.view.ty) :
    arg9.view.read (Elt Ideal) (arg9.view.writes (Elt Ideal) f (pb_k0_t1 (F := Ideal) Variants.none c none i arg2 harg2 arg3 harg3 arg4 harg4 arg5 harg5 arg6 harg6 arg7 harg7 arg8 harg8 arg9 harg9 arg10 harg10 hc0 f2 16).1) = qC (arg2.view.read (Elt Ideal) f2) := by
  funext y
  exact (congrArg _ (eq_ix2 (n0 := 1024) (n1 := 2560) y)).trans (read_x c i arg2 harg2 arg3 harg3 arg4 harg4 arg5 harg5 arg6 harg6 arg7 harg7 arg8 harg8 arg9 harg9 arg10 harg10 hc0 f2 16 (le_refl _) f (y 0) (y 0).isLt (y 1))

theorem pb_qS (f : BufTy.Contents (Elt Ideal) arg10.view.ty) :
    arg10.view.read (Elt Ideal) (arg10.view.writes (Elt Ideal) f (pb_k0_t1 (F := Ideal) Variants.none c none i arg2 harg2 arg3 harg3 arg4 harg4 arg5 harg5 arg6 harg6 arg7 harg7 arg8 harg8 arg9 harg9 arg10 harg10 hc0 f2 16).2) = qS (arg2.view.read (Elt Ideal) f2) := by
  funext y
  exact (congrArg _ (eq_ix2 (n0 := 1024) (n1 := 1) y)).trans (read_xs c i arg2 harg2 arg3 harg3 arg4 harg4 arg5 harg5 arg6 harg6 arg7 harg7 arg8 harg8 arg9 harg9 arg10 harg10 hc0 f2 16 (le_refl _) f (y 0) (y 0).isLt (y 1))

end

/-- The body at a point of column 0. -/
theorem body_A (c : Dev nD) (E : Set ℕ) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : cond0_0 i)
    (X2 : Vec Ideal S1024x2560 .bf16) (X3 X4 : Vec Ideal S2560x512 .fp8e4m3) (X5 X6 : Vec Ideal S1x512 .f32) (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (oC (qC X2) (qS X2) X3 X4 X5 X6) ∗ owns (c : Thread nD τ) arg8 fullShare (oS (qC X2) (qS X2) X3 X4 X5 X6 (i 1).val (fun _ => Ideal.ofBits .f32 0x00000000#32)) ∗ owns (c : Thread nD τ) arg9 fullShare (qC X2) ∗ owns (c : Thread nD τ) arg10 fullShare (qS X2)) -∗ K ⟨⟩))
      ⊢ wp frame (wpE (defs₀ (F := Ideal)) Variants.none c none) E (cc0_geglu_gate_up i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, Hk⟩
  subst h2 h3 h4 h5 h6
  iapply ((runA (F := Ideal) c i arg2 harg2 arg3 harg3 arg4 harg4 arg5 harg5 arg6 harg6 arg7 harg7 arg8 harg8 arg9 harg9 arg10 harg10 hc0 f2 f3 f4 f5 f6 f8 f9 f10).2.2.2.2 E f7 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  iapply Hk
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rw [runA_codes, pb_qC, pb_qS]; exact lCodes_oC ..
  isplitl [H8]
  · iexists _; isplitr
    swap; · iexact H8
    ipureintro; rw [runA_scales, pb_qC, pb_qS]; exact lA16_oS _ _ _ _ _ _ _ (i 1).isLt _
  isplitl [H9]
  · iexists _; isplitr
    swap; · iexact H9
    ipureintro; rw [runA_x]; exact pb_qC ..
  iexists _; isplitr
  swap; · iexact H10
  ipureintro; rw [runA_xs]; exact pb_qS ..

/-- The body at a point of a later column. -/
theorem body_B (c : Dev nD) (E : Set ℕ) (i : grid0.Coords) (arg2 : Memref sig .tc .vmem S1024x2560 .bf16) (harg2 : arg2.IsWhole) (arg3 : Memref sig .tc .vmem S2560x512 .fp8e4m3) (harg3 : arg3.IsWhole) (arg4 : Memref sig .tc .vmem S2560x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .fp8e4m3) (harg7 : arg7.IsWhole) (arg8 : Memref sig .tc .vmem S1024x80 .f32) (harg8 : arg8.IsWhole) (arg9 : Memref sig .tc .vmem S1024x2560 .fp8e4m3) (harg9 : arg9.IsWhole) (arg10 : Memref sig .tc .vmem S1024x1 .f32) (harg10 : arg10.IsWhole) (hc0 : ¬ cond0_0 i)
    (X2 : Vec Ideal S1024x2560 .bf16) (X3 X4 : Vec Ideal S2560x512 .fp8e4m3) (X5 X6 : Vec Ideal S1x512 .f32) (X8 : Vec Ideal S1024x80 .f32) (X9 : Vec Ideal S1024x2560 .fp8e4m3) (X10 : Vec Ideal S1024x1 .f32) (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ owns (c : Thread nD τ) arg8 fullShare X8 ∗ owns (c : Thread nD τ) arg9 fullShare X9 ∗ owns (c : Thread nD τ) arg10 fullShare X10 ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (oC X9 X10 X3 X4 X5 X6) ∗ owns (c : Thread nD τ) arg8 fullShare (oS X9 X10 X3 X4 X5 X6 (i 1).val X8) ∗ owns (c : Thread nD τ) arg9 fullShare X9 ∗ owns (c : Thread nD τ) arg10 fullShare X10) -∗ K ⟨⟩))
      ⊢ wp frame (wpE (defs₀ (F := Ideal)) Variants.none c none) E (cc0_geglu_gate_up i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%f8, %h8, H8⟩, ⟨%f9, %h9, H9⟩, ⟨%f10, %h10, H10⟩, Hk⟩
  subst h2 h3 h4 h5 h6 h8 h9 h10
  iapply ((runB (F := Ideal) c i arg2 harg2 arg3 harg3 arg4 harg4 arg5 harg5 arg6 harg6 arg7 harg7 arg8 harg8 arg9 harg9 arg10 harg10 hc0 f2 f3 f4 f5 f6 f8 f9 f10).2.2 E f7 K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  iapply Hk
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rw [runB_codes]; exact lCodes_oC ..
  isplitl [H8]
  · iexists _; isplitr
    swap; · iexact H8
    ipureintro; rw [runB_scales]; exact lB16_oS _ _ _ _ _ _ _ (i 1).isLt _ _
  isplitl [H9]
  · iexists _; isplitr
    swap; · iexact H9
    ipureintro; rfl
  iexists _; isplitr
  swap; · iexact H10
  ipureintro; rfl

end Cert.KernelIdeal.Gen

end
-- ==== Proof.Data.lean ====
/- The kernel's run: what every window holds at every grid point, the body obligation, and the frame. -/
module

public import proofs.«01_k».proof.Proof.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Scale Cert.Spec

local notation "𝕄" => MT nD τ sig Unit (Elt Ideal) ℕ (UR sig nD τ) ℕ

variable (m : (ℓ : Loc nD τ sig) → Buf (Elt Ideal) ℓ) (ρ : Dev nD → PrngReg)

/-- The block of codes of the input at a point. -/
def xC (c : Dev nD) (t : Fin cfg0.N) : Vec Ideal S1024x2560 .fp8e4m3 := qC (iblk m c 0 t)

/-- The block of scales of the input at a point. -/
def xS (c : Dev nD) (t : Fin cfg0.N) : Vec Ideal S1024x1 .f32 := qS (iblk m c 0 t)

/-- The block of codes of the activations at a point. -/
def hC (c : Dev nD) (t : Fin cfg0.N) : Vec Ideal S1024x512 .fp8e4m3 :=
  oC (xC m c t) (xS m c t) (iblk m c 1 t) (iblk m c 2 t) (iblk m c 3 t) (iblk m c 4 t)

/-- The block of scales of the activations after a point, over `base`. -/
def hS1 (c : Dev nD) (t : Fin cfg0.N) (base : Vec Ideal S1024x80 .f32) : Vec Ideal S1024x80 .f32 :=
  oS (xC m c t) (xS m c t) (iblk m c 1 t) (iblk m c 2 t) (iblk m c 3 t) (iblk m c 4 t) (t.val % 20) base

/-- A block of zeros. -/
def zS : Vec Ideal S1024x80 .f32 := fun _ => Ideal.ofBits .f32 0x00000000#32

/-- The block of scales of the activations after a point. -/
def hSn (c : Dev nD) : (n : ℕ) → n < cfg0.N → Vec Ideal S1024x80 .f32
  | 0, h => hS1 m c ⟨0, h⟩ zS
  | n + 1, h => hS1 m c ⟨n + 1, h⟩ (if (n + 1) % 20 = 0 then zS else hSn c n (Nat.lt_of_succ_lt h))

/-- The same, by the point. -/
def hS (c : Dev nD) (t : Fin cfg0.N) : Vec Ideal S1024x80 .f32 := hSn m c t.val t.isLt

/-- The point before. -/
def pred (t : Fin cfg0.N) : Fin cfg0.N := ⟨t.val - 1, Nat.lt_of_le_of_lt (Nat.sub_le _ _) t.isLt⟩

theorem hS_first (c : Dev nD) (t : Fin cfg0.N) (h : t.val % 20 = 0) : hS m c t = hS1 m c t zS := by
  obtain ⟨n, hn⟩ := t
  cases n with
  | zero => rfl
  | succ n => exact congrArg (hS1 m c ⟨n + 1, hn⟩) (if_pos h)

theorem hS_later (c : Dev nD) (t : Fin cfg0.N) (h : ¬ t.val % 20 = 0) : hS m c t = hS1 m c t (hS m c (pred t)) := by
  obtain ⟨n, hn⟩ := t
  cases n with
  | zero => exact absurd rfl h
  | succ n => exact congrArg (hS1 m c ⟨n + 1, hn⟩) (if_neg h)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hC m c t
    | ⟨6, _⟩ => hS m c t
    | ⟨7, _⟩ => xC m c t
    | ⟨8, _⟩ => xS m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hC m c t := by dsimp only [dats]
theorem after0_6 (c : Dev nD) (t : Fin cfg0.N) : (dats m 0 c).after 6 t = hS m c t := by dsimp only [dats]
theorem after0_7 (c : Dev nD) (t : Fin cfg0.N) : (dats m 0 c).after 7 t = xC m c t := by dsimp only [dats]
theorem after0_8 (c : Dev nD) (t : Fin cfg0.N) : (dats m 0 c).after 8 t = xS m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Along a row of points the input's block stays. -/
theorem iblk0_pred (c : Dev nD) (t : Fin cfg0.N) (h : ¬ t.val % 20 = 0) : iblk m c 0 t = iblk m c 0 (pred t) := by
  have hf : (cfg0.win 0).fetch t = false := by
    rw [Bool.eq_false_iff]; exact fun e => h ((fetch0_0 t).mp e)
  have ht : t.val ≠ 0 := fun e => h (by rw [e])
  rw [← before0_0 m c t (iblk m c 0 t), (dats m 0 c).before_unfetched_in 0 rfl t hf (fun _ => rfl)]
  unfold Dat.kept
  refine (Pipeline.fill_of_clip_none (cfg := cfg0) 0 _ (fun _ => rfl) _ ((dats m 0 c).after 0 (pred t)) _).trans ?_
  exact (Window.fill_cut _ _ _).trans (after0_0 m c (pred t))

/-- An output stored only at column 0, and the same there along a row, is found so at every later column. -/
theorem before_kept {c : Dev nD} (dat : Dat τ (Elt Ideal) Unit ℕ (UR sig nD τ) ℕ cfg0 c) (w : Fin cfg0.W)
    (hout : (cfg0.win w).isOut = true) (hi : ∀ t : Fin cfg0.N, cfg0.idle w (cfg0.grid.coords t) = !decide (t.val % 20 = 0))
    (hf : ∀ t : Fin cfg0.N, (cfg0.win w).flush t = true ↔ t.val % 20 = 19) (hclip : ∀ (i : cfg0.grid.Coords) a, (cfg0.win w).clip i a = none)
    (ha : ∀ t : Fin cfg0.N, ¬ t.val % 20 = 0 → dat.after w t = dat.after w (pred t)) (d) :
    ∀ (n : ℕ) (t : Fin cfg0.N), t.val = n → ¬ t.val % 20 = 0 → dat.before w t d = dat.after w t := by
  intro n
  induction n with
  | zero => intro t hn h; exact absurd (by rw [hn]) h
  | succ n ih =>
    intro t hn h
    have hfl : (cfg0.win w).flush (pred t) = false := by
      rw [Bool.eq_false_iff]; exact fun e => by
        have e1 : (t.val - 1) % 20 = 19 := (hf (pred t)).mp e
        omega
    rw [dat.before_of_pos w t (by omega) ((cfg0.win w).fetch_out hout t), ha t h]
    refine (if_neg (by rw [show (cfg0.win w).flush ⟨t.val - 1, _⟩ = false from hfl]; exact Bool.false_ne_true)).trans ?_
    show dat.left w (pred t) d = _
    unfold Dat.left
    by_cases h0 : (pred t).val % 20 = 0
    · have e : cfg0.idle w (cfg0.grid.coords (pred t)) = false := (hi _).trans (by rw [decide_eq_true h0]; rfl)
      rw [e]
      unfold Dat.kept
      exact (Pipeline.fill_of_clip_none (cfg := cfg0) w _ (hclip _) d (dat.after w (pred t)) _).trans (Window.fill_cut _ _ _)
    · have e : cfg0.idle w (cfg0.grid.coords (pred t)) = true := (hi _).trans (by rw [decide_eq_false h0]; rfl)
      rw [e]
      exact ih (pred t) (by show t.val - 1 = n; omega) h0

theorem idle_at (t : Fin cfg0.N) : (!(k0_cond1 (grid0.coords t) == 1#1)) = !decide (t.val % 20 = 0) := by
  have e := hcond0_0 t
  by_cases h : t.val % 20 = 0
  · rw [decide_eq_true h, show k0_cond1 (grid0.coords t) = 1#1 from e.mpr h]; rfl
  · rw [decide_eq_false h]
    have : ¬ k0_cond1 (grid0.coords t) = 1#1 := fun x => h (e.mp x)
    simpa using this

theorem before0_7 (c : Dev nD) (t : Fin cfg0.N) (h : ¬ t.val % 20 = 0) (d) : (dats m 0 c).before 7 t d = xC m c t :=
  (before_kept (dats m 0 c) 7 rfl (fun t => idle_at t) flush0_7 (fun _ _ => rfl)
    (fun t h => by rw [after0_7, after0_7]; unfold xC; rw [iblk0_pred m c t h]) d t.val t rfl h).trans (after0_7 m c t)

theorem before0_8 (c : Dev nD) (t : Fin cfg0.N) (h : ¬ t.val % 20 = 0) (d) : (dats m 0 c).before 8 t d = xS m c t :=
  (before_kept (dats m 0 c) 8 rfl (fun t => idle_at t) flush0_8 (fun _ _ => rfl)
    (fun t h => by rw [after0_8, after0_8]; unfold xS; rw [iblk0_pred m c t h]) d t.val t rfl h).trans (after0_8 m c t)

theorem before0_6 (c : Dev nD) (t : Fin cfg0.N) (h : ¬ t.val % 20 = 0) (d) : (dats m 0 c).before 6 t d = hS m c (pred t) := by
  refine ((dats m 0 c).before_out_kept 6 rfl t (fun e => h (by rw [e])) ?_ (fun _ => rfl) (fun _ _ => rfl) d).trans (after0_6 m c (pred t))
  rw [Bool.eq_false_iff]
  intro e
  have e1 : (t.val - 1) % 20 = 19 := (flush0_6 (pred t)).mp e
  omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A buffer at its final contents is what the body leaves there, idle or not. -/
theorem leaves_of (c : Dev nD) (w : Fin cfg0.W) (t : Fin cfg0.N) (h : ∀ d, (dats m 0 c).before w t d = (dats m 0 c).after w t) :
    owns (c : Thread nD τ) ((cfg0.win w).stage (cfg0.slots t w)) fullShare ((dats m 0 c).after w t) ⊢ ((dats m 0 c).leavesExact w t : sProp 𝕄) := by
  unfold Dat.leavesExact
  split
  · split
    · iintro H
      iexists (dats m 0 c).after w t
      rw [h]
      iexact H
    · exact .rfl
  · exact .rfl

theorem col_eq (t : Fin cfg0.N) : (grid0.coords t 1).val = t.val % 20 := by
  have ht : t.val < 360 := Nat.lt_of_lt_of_eq t.isLt N_0
  have e1 : (grid0.coords t 1).val = t.val / 1 % 20 := Pipeline.Grid.coords_val t 1 (by decide) rfl
  rw [e1, Nat.div_one]

theorem post_first (c : Dev nD) (t : Fin cfg0.N) (h : t.val % 20 = 0) :
    oS (xC m c t) (xS m c t) (iblk m c 1 t) (iblk m c 2 t) (iblk m c 3 t) (iblk m c 4 t) (grid0.coords t 1).val zS = hS m c t := by
  rw [hS_first m c t h, col_eq]; rfl

theorem post_later (c : Dev nD) (t : Fin cfg0.N) (h : ¬ t.val % 20 = 0) :
    oS (xC m c t) (xS m c t) (iblk m c 1 t) (iblk m c 2 t) (iblk m c 3 t) (iblk m c 4 t) (grid0.coords t 1).val (hS m c (pred t)) =
      hS m c t := by
  rw [hS_later m c t h, col_eq]; rfl

set_option maxHeartbeats 1600000 in
theorem sound_first (c : Dev nD) (t : Fin cfg0.N) (h0 : t.val % 20 = 0) :
    bodyPre m c t ⊢ wp frame (wpE (defs₀ (F := Ideal)) Variants.none c none) Set.univ (bodyAt0 t) (fun _ => bodyPost m c t) := by
  have hi : cfg0.idle 7 (cfg0.grid.coords t) = false := (idle_at t).trans (by rw [decide_eq_true h0]; rfl)
  have hi8 : cfg0.idle 8 (cfg0.grid.coords t) = false := (idle_at t).trans (by rw [decide_eq_true h0]; rfl)
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl,
    leaves_live m c 5 t rfl, leaves_live m c 6 t rfl, leaves_live m c 7 t hi, leaves_live m c 8 t hi8,
    after0_0, after0_1, after0_2, after0_3, after0_4, after0_5, after0_6, after0_7, after0_8, ← post_first m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_A c Set.univ (grid0.coords t) _ _ _ _ _ _ _ _ _ _ _ _ _ _ _ _ _ _ ((hcond0_0 t).mpr h0) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
theorem sound_later (c : Dev nD) (t : Fin cfg0.N) (h0 : ¬ t.val % 20 = 0) :
    bodyPre m c t ⊢ wp frame (wpE (defs₀ (F := Ideal)) Variants.none c none) Set.univ (bodyAt0 t) (fun _ => bodyPost m c t) := by
  have l7 := leaves_of m c 7 t (fun d => (before0_7 m c t h0 d).trans (after0_7 m c t).symm)
  have l8 := leaves_of m c 8 t (fun d => (before0_8 m c t h0 d).trans (after0_8 m c t).symm)
  rw [after0_7] at l7
  rw [after0_8] at l8
  unfold bodyPre bodyPost bodyAt0
  simp only [before0_0, before0_1, before0_2, before0_3, before0_4, before0_6 m c t h0, before0_7 m c t h0, before0_8 m c t h0]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl,
    leaves_live m c 5 t rfl, leaves_live m c 6 t rfl,
    after0_0, after0_1, after0_2, after0_3, after0_4, after0_5, after0_6, ← post_later m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_B c Set.univ (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (hS m c (pred t)) (xC m c t) (xS m c t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply l7; iexact H7
  iapply l8; iexact H8

theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  have h : bodyPre m c t ⊢ wp frame (wpE (defs₀ (F := Ideal)) Variants.none c none) Set.univ (bodyAt0 t) (fun _ => bodyPost m c t) := by
    by_cases h0 : t.val % 20 = 0
    · exact sound_first m c t h0
    · exact sound_later m c t h0
  exact triple_restated h rfl .rfl fun _ => .rfl

/-! ## The run and the frame -/

set_option backward.isDefEq.respectTransparency.types false in
set_option maxHeartbeats 800000 in
/-- The launch: every array of the pipeline ends at what the proof data says, and every semaphore at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch, the counters forgotten. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Whole.lean ====
/- The problem's four results as functions of its three arguments. -/
module

public import proofs.«01_k».proof.Proof.Spec

@[expose] public section

noncomputable section

namespace Cert.Spec

open Idealize.ShloMosaic Cert.Scale

variable (X : Fin 18432 → Fin 2560 → EReal) (W : Fin 2560 → Fin 20480 → EReal) (S : Fin 20480 → EReal)

/-- The linear layer's output at row `r` and column `c`: the codes of row `r` against column `c` of the weights, scaled. -/
def pre (r : Fin 18432) (c : Fin 20480) : EReal := lin (codes (X r)) (scale (X r)) (fun k => W k c) (S c)

/-- The gated activation at row `r` and column `c`. -/
def act (r : Fin 18432) (c : Fin 10240) : EReal :=
  geglu (pre X W S r ⟨c.val, by omega⟩) (pre X W S r ⟨10240 + c.val, by omega⟩)

/-- Group `g` of row `r` of the activations. -/
def grp (r : Fin 18432) (g : Fin 80) : Fin 128 → EReal := fun z => act X W S r ⟨128 * g.val + z.val, by omega⟩

/-- The codes of the activations. -/
def outC (r : Fin 18432) (c : Fin 10240) : EReal :=
  codes (grp X W S r ⟨c.val / 128, by omega⟩) ⟨c.val % 128, by omega⟩

/-- The scales of the activations. -/
def outS (r : Fin 18432) (g : Fin 80) : EReal := scale (grp X W S r g)

end Cert.Spec

end
-- ==== Proof.Final.lean ====
/- The kernel's four results after the run, as functions of its three operands. -/
module

public import proofs.«01_k».proof.Proof.Data
public import proofs.«01_k».proof.Proof.Whole
public import Idealize.ShloMosaic.Lib.Pipeline.Value

@[expose] public section

set_option maxRecDepth 16384

noncomputable section

namespace Cert.KernelIdeal.Gen

open Idealize.ShloMosaic Idealize.ShloMosaic.TcCoe Idealize.SL.Sem
open Idealize.ShloMosaic.Pipeline (Dat Cfg Window)
open Cert.Scale Cert.Spec

variable (m : (ℓ : Loc nD τ sig) → Buf (Elt Ideal) ℓ) (ρ : Dev nD → PrngReg)

/-- The operands as functions of row and column: the input, -/
def opX (c : Dev nD) (r : Fin 18432) (k : Fin 2560) : EReal := (V m c main_v1 : Vec Ideal S18432x2560 .bf16) (ix2 r k)
/-- the weights, -/
def opW (c : Dev nD) (k : Fin 2560) (n : Fin 20480) : EReal := (V m c main_arg1 : Vec Ideal S2560x20480 .fp8e4m3) (ix2 k n)
/-- and their scales. -/
def opS (c : Dev nD) (n : Fin 20480) : EReal := (V m c main_v0 : Vec Ideal S1x20480 .f32) (ix2 0 n)

theorem lt_N (t : Fin cfg0.N) : t.val < 360 := Nat.lt_of_lt_of_eq t.isLt N_0

theorem row_eq (t : Fin cfg0.N) : (grid0.coords t 0).val = t.val / 20 := by
  have ht := lt_N t
  have e0 : (grid0.coords t 0).val = t.val / 20 % 18 := Pipeline.Grid.coords_val t 0 (by decide) rfl
  rw [e0]; omega

/-- The array's row at row `r` of a block. -/
def rowAt (t : Fin cfg0.N) (r : Fin 1024) : Fin 18432 := ⟨t.val / 20 * 1024 + r.val, by have := lt_N t; omega⟩
/-- The array's column at column `C` of a block. -/
def colAt (t : Fin cfg0.N) (C : Fin 512) : Fin 10240 := ⟨t.val % 20 * 512 + C.val, by omega⟩

/-! ## The windows' blocks in their arrays -/

theorem row32 (t : Fin cfg0.N) : (BitVec.ofNat 32 (grid0.coords t 0).val).toNat = t.val / 20 := by
  have := lt_N t
  rw [row_eq, BitVec.toNat_ofNat]; omega

theorem col32 (t : Fin cfg0.N) : (BitVec.ofNat 32 (grid0.coords t 1).val).toNat = t.val % 20 := by
  rw [col_eq, BitVec.toNat_ofNat]; omega

theorem colUp32 (t : Fin cfg0.N) : (Scalar.addi (BitVec.ofNat 32 (grid0.coords t 1).val) 20#32).toNat = t.val % 20 + 20 := by
  rw [col_eq]
  show (BitVec.ofNat 32 (t.val % 20) + 20#32).toNat = _
  rw [BitVec.toNat_add, BitVec.toNat_ofNat, BitVec.toNat_ofNat]; omega

theorem iblk0_at (c : Dev nD) (t : Fin cfg0.N) (r : Fin 1024) (q : Fin 2560) :
    (iblk m c 0 t : Vec Ideal S1024x2560 .bf16) (ix2 r q) = opX m c (rowAt t r) q := by
  show (V m c main_v1 : Vec Ideal S18432x2560 .bf16) _ = (V m c main_v1 : Vec Ideal S18432x2560 .bf16) _
  congr 1
  refine Shape.idx_ext₂ ?_ ?_
  · show (BitVec.ofNat 32 (grid0.coords t 0).val).toNat * 1024 + 1 * r.val = t.val / 20 * 1024 + r.val
    rw [row32, Nat.one_mul]
  · show 0 * 2560 + 1 * q.val = q.val
    omega

theorem iblk1_at (c : Dev nD) (t : Fin cfg0.N) (k : Fin 2560) (C : Fin 512) :
    (iblk m c 1 t : Vec Ideal S2560x512 .fp8e4m3) (ix2 k C) = opW m c k ⟨(colAt t C).val, by omega⟩ := by
  show (V m c main_arg1 : Vec Ideal S2560x20480 .fp8e4m3) _ = (V m c main_arg1 : Vec Ideal S2560x20480 .fp8e4m3) _
  congr 1
  refine Shape.idx_ext₂ ?_ ?_
  · show 0 * 2560 + 1 * k.val = k.val
    omega
  · show (BitVec.ofNat 32 (grid0.coords t 1).val).toNat * 512 + 1 * C.val = t.val % 20 * 512 + C.val
    rw [col32, Nat.one_mul]

theorem iblk2_at (c : Dev nD) (t : Fin cfg0.N) (k : Fin 2560) (C : Fin 512) :
    (iblk m c 2 t : Vec Ideal S2560x512 .fp8e4m3) (ix2 k C) = opW m c k ⟨10240 + (colAt t C).val, by omega⟩ := by
  show (V m c main_arg1 : Vec Ideal S2560x20480 .fp8e4m3) _ = (V m c main_arg1 : Vec Ideal S2560x20480 .fp8e4m3) _
  congr 1
  refine Shape.idx_ext₂ ?_ ?_
  · show 0 * 2560 + 1 * k.val = k.val
    omega
  · show (Scalar.addi (BitVec.ofNat 32 (grid0.coords t 1).val) 20#32).toNat * 512 + 1 * C.val = 10240 + (t.val % 20 * 512 + C.val)
    rw [colUp32]; omega

theorem iblk3_at (c : Dev nD) (t : Fin cfg0.N) (C : Fin 512) :
    (iblk m c 3 t : Vec Ideal S1x512 .f32) (ix2 0 C) = opS m c ⟨(colAt t C).val, by omega⟩ := by
  show (V m c main_v0 : Vec Ideal S1x20480 .f32) _ = (V m c main_v0 : Vec Ideal S1x20480 .f32) _
  congr 1
  refine Shape.idx_ext₂ ?_ ?_
  · rfl
  · show (BitVec.ofNat 32 (grid0.coords t 1).val).toNat * 512 + 1 * C.val = t.val % 20 * 512 + C.val
    rw [col32, Nat.one_mul]

theorem iblk4_at (c : Dev nD) (t : Fin cfg0.N) (C : Fin 512) :
    (iblk m c 4 t : Vec Ideal S1x512 .f32) (ix2 0 C) = opS m c ⟨10240 + (colAt t C).val, by omega⟩ := by
  show (V m c main_v0 : Vec Ideal S1x20480 .f32) _ = (V m c main_v0 : Vec Ideal S1x20480 .f32) _
  congr 1
  refine Shape.idx_ext₂ ?_ ?_
  · rfl
  · show (Scalar.addi (BitVec.ofNat 32 (grid0.coords t 1).val) 20#32).toNat * 512 + 1 * C.val = 10240 + (t.val % 20 * 512 + C.val)
    rw [colUp32]; omega

/-! ## What the body leaves, in the operands -/

theorem qC_at (X : Vec Ideal S1024x2560 .bf16) (r : Fin 1024) (q : Fin 2560) :
    qC X (ix2 r q) = codes (fun k : Fin 2560 => X (ix2 r k)) q := by
  unfold qC; rfl

theorem qS_at (X : Vec Ideal S1024x2560 .bf16) (r : Fin 1024) (z : Fin 1) :
    qS X (ix2 r z) = scale (fun k : Fin 2560 => X (ix2 r k)) := by
  unfold qS; rfl

theorem xC_at (c : Dev nD) (t : Fin cfg0.N) (r : Fin 1024) (q : Fin 2560) :
    xC m c t (ix2 r q) = codes (opX m c (rowAt t r)) q := by
  unfold xC
  rw [qC_at, funext fun k => iblk0_at m c t r k]

theorem xS_at (c : Dev nD) (t : Fin cfg0.N) (r : Fin 1024) (z : Fin 1) :
    xS m c t (ix2 r z) = scale (opX m c (rowAt t r)) := by
  unfold xS
  rw [qS_at, funext fun k => iblk0_at m c t r k]

theorem hB_at (c : Dev nD) (t : Fin cfg0.N) (R : Fin 1024) (C : Fin 512) :
    hB (xC m c t) (xS m c t) (iblk m c 1 t) (iblk m c 2 t) (iblk m c 3 t) (iblk m c 4 t) R C =
      act (opX m c) (opW m c) (opS m c) (rowAt t R) (colAt t C) := by
  have e9 := fun k : Fin 2560 => xC_at m c t R k
  have e10 := xS_at m c t R 0
  have e3 := fun k : Fin 2560 => iblk1_at m c t k C
  have e4 := fun k : Fin 2560 => iblk2_at m c t k C
  have e5 := iblk3_at m c t C
  have e6 := iblk4_at m c t C
  unfold hB act pre
  exact congrArg₂ geglu
    (congr (congr (congr (congrArg lin (funext e9)) e10) (funext e3)) e5)
    (congr (congr (congr (congrArg lin (funext e9)) e10) (funext e4)) e6)

theorem hC_at (c : Dev nD) (t : Fin cfg0.N) (R : Fin 1024) (C : Fin 512) :
    hC m c t (ix2 R C) = outC (opX m c) (opW m c) (opS m c) (rowAt t R) (colAt t C) := by
  show cB (xC m c t) (xS m c t) (iblk m c 1 t) (iblk m c 2 t) (iblk m c 3 t) (iblk m c 4 t) R C = _
  unfold cB outC
  have hz : (⟨C.val % 128, by omega⟩ : Fin 128) = ⟨(colAt t C).val % 128, by omega⟩ :=
    Fin.ext (by show C.val % 128 = (t.val % 20 * 512 + C.val) % 128; omega)
  rw [hz]
  refine congrArg (fun v : Fin 128 → EReal => codes v _) (funext fun z => ?_)
  rw [hB_at]
  unfold grp
  refine congrArg _ (Fin.ext ?_)
  show t.val % 20 * 512 + (128 * (C.val / 128) + z.val) = 128 * ((t.val % 20 * 512 + C.val) / 128) + z.val
  omega

theorem sB_at (c : Dev nD) (t : Fin cfg0.N) (R : Fin 1024) (q : Fin 4) (g : Fin 80) (hg : g.val = 4 * (t.val % 20) + q.val) :
    sB (xC m c t) (xS m c t) (iblk m c 1 t) (iblk m c 2 t) (iblk m c 3 t) (iblk m c 4 t) R q =
      outS (opX m c) (opW m c) (opS m c) (rowAt t R) g := by
  unfold sB outS
  refine congrArg (fun v : Fin 128 → EReal => scale v) (funext fun z => ?_)
  rw [hB_at]
  unfold grp
  refine congrArg _ (Fin.ext ?_)
  show t.val % 20 * 512 + (128 * q.val + z.val) = 128 * g.val + z.val
  omega

/-- After a point, the lanes of the columns so far hold the scales of their groups. -/
theorem hS_at (c : Dev nD) (R : Fin 1024) (l : Fin 80) : ∀ (n : ℕ) (t : Fin cfg0.N), t.val = n → l.val < 4 * (t.val % 20) + 4 →
    hS m c t (ix2 R l) = outS (opX m c) (opW m c) (opS m c) (rowAt t R) l := by
  intro n
  induction n with
  | zero =>
    intro t hn hl
    have h0 : t.val % 20 = 0 := by rw [hn]
    rw [hS_first m c t h0]
    show val (xC m c t) (xS m c t) (iblk m c 1 t) (iblk m c 2 t) (iblk m c 3 t) (iblk m c 4 t) (t.val % 20) (fun R l => zS (ix2 R l)) 16 R l = _
    unfold val
    have hR := R.isLt
    rw [dif_pos (by omega)]
    exact sB_at m c t R _ l (by show l.val = 4 * (t.val % 20) + (l.val - 4 * (t.val % 20)); omega)
  | succ n ih =>
    intro t hn hl
    have hR := R.isLt
    have key : ∀ base : Vec Ideal S1024x80 .f32, (l.val < 4 * (t.val % 20) →
        base (ix2 R l) = outS (opX m c) (opW m c) (opS m c) (rowAt t R) l) →
        hS1 m c t base (ix2 R l) = outS (opX m c) (opW m c) (opS m c) (rowAt t R) l := by
      intro base hb
      show val (xC m c t) (xS m c t) (iblk m c 1 t) (iblk m c 2 t) (iblk m c 3 t) (iblk m c 4 t) (t.val % 20) (fun R l => base (ix2 R l)) 16 R l = _
      unfold val
      by_cases hlt : l.val < 4 * (t.val % 20)
      · rw [dif_neg (by omega)]; exact hb hlt
      · rw [dif_pos (by omega)]
        exact sB_at m c t R _ l (by show l.val = 4 * (t.val % 20) + (l.val - 4 * (t.val % 20)); omega)
    by_cases h0 : t.val % 20 = 0
    · rw [hS_first m c t h0]; exact key _ (fun h => by omega)
    · rw [hS_later m c t h0]
      refine key _ (fun h => ?_)
      have ep : (pred t).val = t.val - 1 := rfl
      rw [ih (pred t) (by omega) (by omega)]
      exact congrArg (fun r => outS (opX m c) (opW m c) (opS m c) r l) (Fin.ext (by
        show (t.val - 1) / 20 * 1024 + R.val = t.val / 20 * 1024 + R.val
        omega))

/-! ## The results' arrays -/

/-- The codes of the activations, -/
def G5 (c : Dev nD) : Buf (Elt Ideal) ((c : Thread nD τ).loc main_v2_0) :=
  (fun i => outC (opX m c) (opW m c) (opS m c) (i 0) (i 1) : Vec Ideal S18432x10240 .fp8e4m3)
/-- their scales, -/
def G6 (c : Dev nD) : Buf (Elt Ideal) ((c : Thread nD τ).loc main_v2_1) :=
  (fun i => outS (opX m c) (opW m c) (opS m c) (i 0) (i 1) : Vec Ideal S18432x80 .f32)
/-- the codes of the input, -/
def G7 (c : Dev nD) : Buf (Elt Ideal) ((c : Thread nD τ).loc main_v2_2) :=
  (fun i => codes (opX m c (i 0)) (i 1) : Vec Ideal S18432x2560 .fp8e4m3)
/-- and their scales. -/
def G8 (c : Dev nD) : Buf (Elt Ideal) ((c : Thread nD τ).loc main_v2_3) :=
  (fun i => scale (opX m c (i 0)) : Vec Ideal S18432x1 .f32)

theorem cut5 (v : Vec Ideal S1024x512 .fp8e4m3) (t : Fin cfg0.N) (y : S1024x512.Idx) :
    (cfg0.win 5).cut (grid0.coords t) v y = v y := rfl

theorem read5 (G : Vec Ideal S18432x10240 .fp8e4m3) (t : Fin cfg0.N) (y : S1024x512.Idx) :
    (win0_5.blk t).view.read (Elt Ideal) G y = G (ix2 (rowAt t (y 0)) (colAt t (y 1))) := by
  show G _ = G _
  congr 1
  refine Shape.idx_ext₂ ?_ ?_
  · show (BitVec.ofNat 32 (grid0.coords t 0).val).toNat * 1024 + 1 * (y 0).val = t.val / 20 * 1024 + (y 0).val
    rw [row32, Nat.one_mul]
  · show (BitVec.ofNat 32 (grid0.coords t 1).val).toNat * 512 + 1 * (y 1).val = t.val % 20 * 512 + (y 1).val
    rw [col32, Nat.one_mul]

theorem cut6 (v : Vec Ideal S1024x80 .f32) (t : Fin cfg0.N) (y : S1024x80.Idx) :
    (cfg0.win 6).cut (grid0.coords t) v y = v y := rfl

theorem read6 (G : Vec Ideal S18432x80 .f32) (t : Fin cfg0.N) (y : S1024x80.Idx) :
    (win0_6.blk t).view.read (Elt Ideal) G y = G (ix2 (rowAt t (y 0)) (y 1)) := by
  show G _ = G _
  congr 1
  refine Shape.idx_ext₂ ?_ ?_
  · show (BitVec.ofNat 32 (grid0.coords t 0).val).toNat * 1024 + 1 * (y 0).val = t.val / 20 * 1024 + (y 0).val
    rw [row32, Nat.one_mul]
  · show 0 * 80 + 1 * (y 1).val = (y 1).val
    omega

theorem cut7 (v : Vec Ideal S1024x2560 .fp8e4m3) (t : Fin cfg0.N) (y : S1024x2560.Idx) :
    (cfg0.win 7).cut (grid0.coords t) v y = v y := rfl

theorem read7 (G : Vec Ideal S18432x2560 .fp8e4m3) (t : Fin cfg0.N) (y : S1024x2560.Idx) :
    (win0_7.blk t).view.read (Elt Ideal) G y = G (ix2 (rowAt t (y 0)) (y 1)) := by
  show G _ = G _
  congr 1
  refine Shape.idx_ext₂ ?_ ?_
  · show (BitVec.ofNat 32 (grid0.coords t 0).val).toNat * 1024 + 1 * (y 0).val = t.val / 20 * 1024 + (y 0).val
    rw [row32, Nat.one_mul]
  · show 0 * 2560 + 1 * (y 1).val = (y 1).val
    omega

theorem cut8 (v : Vec Ideal S1024x1 .f32) (t : Fin cfg0.N) (y : S1024x1.Idx) :
    (cfg0.win 8).cut (grid0.coords t) v y = v y := rfl

theorem read8 (G : Vec Ideal S18432x1 .f32) (t : Fin cfg0.N) (y : S1024x1.Idx) :
    (win0_8.blk t).view.read (Elt Ideal) G y = G (ix2 (rowAt t (y 0)) (y 1)) := by
  show G _ = G _
  congr 1
  refine Shape.idx_ext₂ ?_ ?_
  · show (BitVec.ofNat 32 (grid0.coords t 0).val).toNat * 1024 + 1 * (y 0).val = t.val / 20 * 1024 + (y 0).val
    rw [row32, Nat.one_mul]
  · show 0 * 1 + 1 * (y 1).val = (y 1).val
    omega

theorem G5_at (c : Dev nD) (r : Fin 18432) (q : Fin 10240) :
    (G5 m c : Vec Ideal S18432x10240 .fp8e4m3) (ix2 r q) = outC (opX m c) (opW m c) (opS m c) r q := by unfold G5; rfl

theorem G6_at (c : Dev nD) (r : Fin 18432) (q : Fin 80) :
    (G6 m c : Vec Ideal S18432x80 .f32) (ix2 r q) = outS (opX m c) (opW m c) (opS m c) r q := by unfold G6; rfl

theorem G7_at (c : Dev nD) (r : Fin 18432) (q : Fin 2560) :
    (G7 m c : Vec Ideal S18432x2560 .fp8e4m3) (ix2 r q) = codes (opX m c r) q := by unfold G7; rfl

theorem G8_at (c : Dev nD) (r : Fin 18432) (q : Fin 1) :
    (G8 m c : Vec Ideal S18432x1 .f32) (ix2 r q) = scale (opX m c r) := by unfold G8; rfl

theorem flushed5 (c : Dev nD) (t : Fin cfg0.N) :
    (dats m 0 c).flushed 5 t = (win0_5.blk t).view.read (Elt Ideal) (G5 m c) := by
  show (cfg0.win 5).cut (grid0.coords t) ((dats m 0 c).after 5 t) = _
  rw [after0_5]
  funext y
  have e : hC m c t y = G5 m c (ix2 (rowAt t (y 0)) (colAt t (y 1))) :=
    (congrArg (hC m c t) (eq_ix2 (n0 := 1024) (n1 := 512) y)).trans ((hC_at m c t (y 0) (y 1)).trans (G5_at m c _ _).symm)
  exact (cut5 (hC m c t) t y).trans (e.trans (read5 (G5 m c) t y).symm)

theorem flushed6 (c : Dev nD) (t : Fin cfg0.N) (h : (cfg0.win 6).flush t = true) :
    (dats m 0 c).flushed 6 t = (win0_6.blk t).view.read (Elt Ideal) (G6 m c) := by
  show (cfg0.win 6).cut (grid0.coords t) ((dats m 0 c).after 6 t) = _
  rw [after0_6]
  funext y
  have e : hS m c t y = G6 m c (ix2 (rowAt t (y 0)) (y 1)) :=
    (congrArg (hS m c t) (eq_ix2 (n0 := 1024) (n1 := 80) y)).trans ((hS_at m c (y 0) (y 1) t.val t rfl (by
      have h19 := (flush0_6 t).mp h
      have h1 : (y 1).val < 80 := (y 1).isLt
      omega)).trans (G6_at m c _ _).symm)
  exact (cut6 (hS m c t) t y).trans (e.trans (read6 (G6 m c) t y).symm)

theorem flushed7 (c : Dev nD) (t : Fin cfg0.N) :
    (dats m 0 c).flushed 7 t = (win0_7.blk t).view.read (Elt Ideal) (G7 m c) := by
  show (cfg0.win 7).cut (grid0.coords t) ((dats m 0 c).after 7 t) = _
  rw [after0_7]
  funext y
  have e : xC m c t y = G7 m c (ix2 (rowAt t (y 0)) (y 1)) :=
    (congrArg (xC m c t) (eq_ix2 (n0 := 1024) (n1 := 2560) y)).trans ((xC_at m c t (y 0) (y 1)).trans (G7_at m c _ _).symm)
  exact (cut7 (xC m c t) t y).trans (e.trans (read7 (G7 m c) t y).symm)

theorem flushed8 (c : Dev nD) (t : Fin cfg0.N) :
    (dats m 0 c).flushed 8 t = (win0_8.blk t).view.read (Elt Ideal) (G8 m c) := by
  show (cfg0.win 8).cut (grid0.coords t) ((dats m 0 c).after 8 t) = _
  rw [after0_8]
  funext y
  have e : xS m c t y = G8 m c (ix2 (rowAt t (y 0)) (y 1)) :=
    (congrArg (xS m c t) (eq_ix2 (n0 := 1024) (n1 := 1) y)).trans ((xS_at m c t (y 0) (y 1)).trans (G8_at m c _ _).symm)
  exact (cut8 (xS m c t) t y).trans (e.trans (read8 (G8 m c) t y).symm)

/-- The point of a row and a column of blocks. -/
def pointOf (i j : ℕ) (hi : i < 18) (hj : j < 20) : Fin cfg0.N := ⟨20 * i + j, by rw [show cfg0.N = 360 from N_0]; omega⟩

theorem cover5 (i : S18432x10240.Idx) :
    ∃ t : Fin cfg0.N, (cfg0.win 5).flush t = true ∧ i ∈ ((cfg0.win 5).blk t).view.set := by
  have h0 : (i 0).val < 18432 := (i 0).isLt
  have h1 : (i 1).val < 10240 := (i 1).isLt
  refine ⟨pointOf ((i 0).val / 1024) ((i 1).val / 512) (by omega) (by omega), flush0_5 _, ?_⟩
  generalize ht : pointOf ((i 0).val / 1024) ((i 1).val / 512) _ _ = t
  have hv : t.val = 20 * ((i 0).val / 1024) + (i 1).val / 512 := by rw [← ht]; rfl
  show i ∈ ((View.whole main_v2_0).slice (win0_5.rect t)).set
  rw [View.set_slice_whole, Rect.mem_set_unit]
  refine Fin.forall_fin_two.mpr ⟨?_, ?_⟩
  · show (BitVec.ofNat 32 (grid0.coords t 0).val).toNat * 1024 ≤ (i 0).val ∧
      (i 0).val < (BitVec.ofNat 32 (grid0.coords t 0).val).toNat * 1024 + 1024
    rw [row32]; omega
  · show (BitVec.ofNat 32 (grid0.coords t 1).val).toNat * 512 ≤ (i 1).val ∧
      (i 1).val < (BitVec.ofNat 32 (grid0.coords t 1).val).toNat * 512 + 512
    rw [col32]; omega

theorem cover6 (i : S18432x80.Idx) :
    ∃ t : Fin cfg0.N, (cfg0.win 6).flush t = true ∧ i ∈ ((cfg0.win 6).blk t).view.set := by
  have h0 : (i 0).val < 18432 := (i 0).isLt
  have h1 : (i 1).val < 80 := (i 1).isLt
  have hv : (pointOf ((i 0).val / 1024) 19 (by omega) (by omega)).val = 20 * ((i 0).val / 1024) + 19 := rfl
  refine ⟨pointOf ((i 0).val / 1024) 19 (by omega) (by omega), (flush0_6 _).mpr (by rw [hv]; omega), ?_⟩
  generalize pointOf ((i 0).val / 1024) 19 _ _ = t at hv
  show i ∈ ((View.whole main_v2_1).slice (win0_6.rect t)).set
  rw [View.set_slice_whole, Rect.mem_set_unit]
  refine Fin.forall_fin_two.mpr ⟨?_, ?_⟩
  · show (BitVec.ofNat 32 (grid0.coords t 0).val).toNat * 1024 ≤ (i 0).val ∧
      (i 0).val < (BitVec.ofNat 32 (grid0.coords t 0).val).toNat * 1024 + 1024
    rw [row32]; omega
  · show 0 * 80 ≤ (i 1).val ∧ (i 1).val < 0 * 80 + 80
    omega

theorem cover7 (i : S18432x2560.Idx) :
    ∃ t : Fin cfg0.N, (cfg0.win 7).flush t = true ∧ i ∈ ((cfg0.win 7).blk t).view.set := by
  have h0 : (i 0).val < 18432 := (i 0).isLt
  have h1 : (i 1).val < 2560 := (i 1).isLt
  have hv : (pointOf ((i 0).val / 1024) 19 (by omega) (by omega)).val = 20 * ((i 0).val / 1024) + 19 := rfl
  refine ⟨pointOf ((i 0).val / 1024) 19 (by omega) (by omega), (flush0_7 _).mpr (by rw [hv]; omega), ?_⟩
  generalize pointOf ((i 0).val / 1024) 19 _ _ = t at hv
  show i ∈ ((View.whole main_v2_2).slice (win0_7.rect t)).set
  rw [View.set_slice_whole, Rect.mem_set_unit]
  refine Fin.forall_fin_two.mpr ⟨?_, ?_⟩
  · show (BitVec.ofNat 32 (grid0.coords t 0).val).toNat * 1024 ≤ (i 0).val ∧
      (i 0).val < (BitVec.ofNat 32 (grid0.coords t 0).val).toNat * 1024 + 1024
    rw [row32]; omega
  · show 0 * 2560 ≤ (i 1).val ∧ (i 1).val < 0 * 2560 + 2560
    omega

theorem cover8 (i : S18432x1.Idx) :
    ∃ t : Fin cfg0.N, (cfg0.win 8).flush t = true ∧ i ∈ ((cfg0.win 8).blk t).view.set := by
  have h0 : (i 0).val < 18432 := (i 0).isLt
  have h1 : (i 1).val < 1 := (i 1).isLt
  have hv : (pointOf ((i 0).val / 1024) 19 (by omega) (by omega)).val = 20 * ((i 0).val / 1024) + 19 := rfl
  refine ⟨pointOf ((i 0).val / 1024) 19 (by omega) (by omega), (flush0_8 _).mpr (by rw [hv]; omega), ?_⟩
  generalize pointOf ((i 0).val / 1024) 19 _ _ = t at hv
  show i ∈ ((View.whole main_v2_3).slice (win0_8.rect t)).set
  rw [View.set_slice_whole, Rect.mem_set_unit]
  refine Fin.forall_fin_two.mpr ⟨?_, ?_⟩
  · show (BitVec.ofNat 32 (grid0.coords t 0).val).toNat * 1024 ≤ (i 0).val ∧
      (i 0).val < (BitVec.ofNat 32 (grid0.coords t 0).val).toNat * 1024 + 1024
    rw [row32]; omega
  · show 0 * 1 ≤ (i 1).val ∧ (i 1).val < 0 * 1 + 1
    omega

/-- The run, read at the results and the arguments. -/
theorem run_values : θ_run defs (onTc (τ := τ) (main (F := Ideal))) ⟨m, fun _ => 0, ρ⟩ (fun r => ∀ c : Dev nD,
      r.2.mem ((c.tc : Thread nD τ).loc main_v2_0) = G5 m c
      ∧ r.2.mem ((c.tc : Thread nD τ).loc main_v2_1) = G6 m c
      ∧ r.2.mem ((c.tc : Thread nD τ).loc main_v2_2) = G7 m c
      ∧ r.2.mem ((c.tc : Thread nD τ).loc main_v2_3) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).1 5).trans ((dats m 0 c).arrAt_eq_of_cover 5 (G5 m c) (fun t _ => flushed5 m c t) cover5),
      ((h.1 c).1 6).trans ((dats m 0 c).arrAt_eq_of_cover 6 (G6 m c) (fun t h => flushed6 m c t h) cover6),
      ((h.1 c).1 7).trans ((dats m 0 c).arrAt_eq_of_cover 7 (G7 m c) (fun t _ => flushed7 m c t) cover7),
      ((h.1 c).1 8).trans ((dats m 0 c).arrAt_eq_of_cover 8 (G8 m c) (fun t _ => flushed8 m c t) cover8), h.2 c⟩)
    (θ_run_and (run_main m ρ) (unchanged m ρ))

end Cert.KernelIdeal.Gen

end
-- ==== Proof.RefPay.lean ====
/- The reference's computation, read at one place of each of its results. -/
module

public import proofs.«01_k».proof.Proof.Gen.ReferenceIdeal.Frame
public import proofs.«01_k».proof.Proof.Whole

@[expose] public section

set_option maxRecDepth 16384

noncomputable section

namespace Cert.ReferenceIdeal.Gen

open Idealize.ShloMosaic Idealize.ShloMosaic.TcCoe
open Cert.Scale Cert.Spec

/-! ## The exponent and the codes of a vector, of any shape -/

/-- The exponents of a vector of amplitudes, -/
def vExp {s : Shape} (a : FVec Ideal s .f32) : FVec Ideal s .f32 :=
  select (andi (cmpf .ole a (broadcast s (Scalar.ofBits (F := Ideal) .f32 0x7F7FFFFF#32)))
      (cmpf .oge (mulf a (broadcast s (Scalar.ofBits (F := Ideal) .f32 0x3B124925#32))) (broadcast s (Scalar.ofBits (F := Ideal) .f32 0x00800000#32))))
    (addf (floor (divf (log (mulf a (broadcast s (Scalar.ofBits (F := Ideal) .f32 0x3B124925#32))))
        (log (broadcast s (Scalar.ofBits (F := Ideal) .f32 0x40000000#32)))))
      (broadcast s (Scalar.ofBits (F := Ideal) .f32 0x3F800000#32)))
    (broadcast s (Scalar.ofBits (F := Ideal) .f32 0x00000000#32))

theorem vExp_at {s : Shape} (a : FVec Ideal s .f32) (j : s.Idx) : vExp a j = exp1 (a j) := rfl

/-- the inverse scale of an exponent, -/
def vInvE {s : Shape} (e : FVec Ideal s .f32) : FVec Ideal s .f32 :=
  exp2 (subf (broadcast s (Scalar.ofBits (F := Ideal) .f32 0x00000000#32)) e)

theorem vInvE_at {s : Shape} (a : FVec Ideal s .f32) (j : s.Idx) : vInvE (vExp a) j = inv1 (a j) := by
  rw [inv1_eq]; rfl

theorem vScaleE_at {s : Shape} (a : FVec Ideal s .f32) (j : s.Idx) : (exp2 (vExp a) : FVec Ideal s .f32) j = scale1 (a j) := by
  rw [scale1_eq]; rfl

/-- and a vector clipped to the range of the codes. -/
def vClip {s : Shape} (v : FVec Ideal s .f32) : FVec Ideal s .fp8e4m3 :=
  truncf .fp8e4m3 (minimumf (broadcast s (Scalar.ofBits (F := Ideal) .f32 0x43E00000#32))
    (maximumf (broadcast s (Scalar.ofBits (F := Ideal) .f32 0xC3E00000#32)) v)) bitsLt_fp8e4m3_f32

theorem vClip_at {s : Shape} (v : FVec Ideal s .f32) (j : s.Idx) : vClip v j = clip (v j) := rfl

/-- The activation, of any shape. -/
def vAct {s : Shape} (g u q : FVec Ideal s .f32) : FVec Ideal s .f32 :=
  mulf (mulf g (mulf (broadcast s (Scalar.ofBits (F := Ideal) .f32 0x3F000000#32))
    (addf (broadcast s (Scalar.ofBits (F := Ideal) .f32 0x3F800000#32))
      (tanh (mulf (broadcast s (Scalar.ofBits (F := Ideal) .f32 0x3F4C422A#32))
        (addf g (mulf (broadcast s (Scalar.ofBits (F := Ideal) .f32 0x3D372713#32)) (mulf g q)))))))) u

theorem ofBits_one : Ideal.ofBits .f32 0x3F800000#32 = (1 : EReal) := by rw [ofBits_one']; norm_num

theorem vAct_at {s : Shape} (g u : FVec Ideal s .f32) (j : s.Idx) : vAct g u (mulf g g) j = geglu (g j) (u j) := by
  show g j * (Ideal.ofBits .f32 0x3F000000#32 * (Ideal.ofBits .f32 0x3F800000#32 + Ideal.tanh (Ideal.ofBits .f32 0x3F4C422A#32 *
    (g j + Ideal.ofBits .f32 0x3D372713#32 * (g j * (g j * g j)))))) * u j = _
  rw [ofBits_one, ← mul_assoc (g j) (g j) (g j)]; rfl

variable (X : Vec Ideal S18432x2560 .f32) (W : Vec Ideal S2560x20480 .fp8e4m3) (S : Vec Ideal S1x20480 .f32)

/-- The operands as functions of row and column: the input, -/
def fX (r : Fin 18432) (k : Fin 2560) : EReal := X (ix2 r k)
/-- the weights, -/
def fW (k : Fin 2560) (n : Fin 20480) : EReal := W (ix2 k n)
/-- and their scales. -/
def fS (n : Fin 20480) : EReal := S (ix2 0 n)

/-! ## The input's codes and scales -/

/-- The rows' amplitudes. -/
def xAmp : FVec Ideal S18432x1 .f32 :=
  shapeCast S18432x1 (multiReduction .maximumf [1] S18432 (absf (k0_pay1 X)) 0xFF800000#32 reduces_S18432x2560_S18432 (.inl rfl) rfl)
    shapeCasts_S18432_S18432x1

theorem xAmp_at (r : Fin 18432) (z : Fin 1) : xAmp X (ix2 r z) = amp (fX X r) := by
  pointwise [xAmp, k0_pay1]; rfl

theorem pay2_eq : k0_pay2 X = vExp (xAmp X) := by
  unfold k0_pay2 vExp xAmp; rfl

theorem pay3_at (r : Fin 18432) (z : Fin 1) : k0_pay3 X (ix2 r z) = scale (fX X r) := by
  unfold k0_pay3 scale
  rw [pay2_eq, ← xAmp_at X r z]
  exact vScaleE_at _ _

theorem pay4_eq : k0_pay4 X = vClip (mulf (k0_pay1 X) (broadcastTo S18432x2560 (vInvE (k0_pay2 X)) broadcasts_S18432x1_S18432x2560)) := by
  unfold k0_pay4 vClip vInvE; rfl

theorem pay4_at (r : Fin 18432) (k : Fin 2560) : k0_pay4 X (ix2 r k) = codes (fX X r) k := by
  rw [pay4_eq, pay2_eq, vClip_at]
  unfold codes
  rw [← xAmp_at X r 0, ← vInvE_at (xAmp X)]
  generalize vInvE (vExp (xAmp X)) = E
  pointwise [k0_pay1]
  rfl

/-! ## The activation -/

theorem pay5_at (r : Fin 18432) (n : Fin 20480) :
    k0_pay5 X W S (ix2 r n) = pre (fX X) (fW W) (fS S) r n := by
  unfold pre lin
  rw [← pay3_at X r 0, ← funext fun k => pay4_at X r k]
  unfold k0_pay5
  generalize k0_pay3 X = A
  generalize k0_pay4 X = B
  pointwise []
  rfl

theorem pay6_at (r : Fin 18432) (n : Fin 10240) :
    k0_pay6 X W S (ix2 r n) = pre (fX X) (fW W) (fS S) r ⟨n.val, by omega⟩ := by
  rw [← pay5_at]
  unfold k0_pay6
  generalize k0_pay5 X W S = A
  show A _ = A _
  congr 1
  exact Shape.idx_ext₂ (by show 0 + r.val = r.val; omega) (by show 0 + n.val = n.val; omega)

theorem pay7_at (r : Fin 18432) (n : Fin 10240) :
    k0_pay7 X W S (ix2 r n) = pre (fX X) (fW W) (fS S) r ⟨10240 + n.val, by omega⟩ := by
  rw [← pay5_at]
  unfold k0_pay7
  generalize k0_pay5 X W S = A
  show A _ = A _
  congr 1
  exact Shape.idx_ext₂ (by show 0 + r.val = r.val; omega) rfl

theorem cut_at (v : FVec Ideal S18432x10240 .f32) (r : Fin 18432) (g : Fin 80) (z : Fin 128) (n : Fin 10240) (hn : n.val = 128 * g.val + z.val) :
    shapeCast S18432x80x128 v shapeCasts_S18432x10240_S18432x80x128 (ix3 r g z) = v (ix2 r n) :=
  shapeCast_apply v _ _ _ (by
    rw [rowMajor_val2 _ 10240 rfl, rowMajor_val3 _ 10240 128 rfl rfl]
    show r.val * 10240 + n.val = r.val * 10240 + g.val * 128 + z.val
    omega)

theorem join_at (v : FVec Ideal S18432x80x128 .fp8e4m3) (r : Fin 18432) (g : Fin 80) (z : Fin 128) (n : Fin 10240) (hn : n.val = 128 * g.val + z.val) :
    shapeCast S18432x10240 v shapeCasts_S18432x80x128_S18432x10240 (ix2 r n) = v (ix3 r g z) :=
  shapeCast_apply v _ _ _ (by
    rw [rowMajor_val2 _ 10240 rfl, rowMajor_val3 _ 10240 128 rfl rfl]
    show r.val * 10240 + g.val * 128 + z.val = r.val * 10240 + n.val
    omega)

/-- The activations, by groups. -/
def hGrp : FVec Ideal S18432x80x128 .f32 := k0_pay9 (k0_pay13 X W S) (k0_pay14 X W S) (k0_pay15 X W S)

theorem pay9_eq (g u q : FVec Ideal S18432x10240 .f32) :
    k0_pay9 g u q = shapeCast S18432x80x128 (vAct g u q) shapeCasts_S18432x10240_S18432x80x128 := by
  unfold k0_pay9 vAct; rfl

theorem hGrp_eq : hGrp X W S = shapeCast S18432x80x128 (vAct (k0_pay6 X W S) (k0_pay7 X W S) (mulf (k0_pay6 X W S) (k0_pay6 X W S)))
    shapeCasts_S18432x10240_S18432x80x128 := by
  have hz : (![0, 0] : Fin 2 → ℕ) = fun _ => 0 := funext fun a => by fin_cases a <;> rfl
  unfold hGrp
  rw [pay9_eq]
  unfold k0_pay13 k0_pay14 k0_pay15 k0_pay8
  rw [View.ld_unit_zero hz, View.ld_unit_zero hz, View.ld_unit_zero hz]

theorem hGrp_at (r : Fin 18432) (g : Fin 80) (z : Fin 128) : hGrp X W S (ix3 r g z) = grp (fX X) (fW W) (fS S) r g z := by
  rw [hGrp_eq, cut_at _ r g z ⟨128 * g.val + z.val, by omega⟩ rfl, vAct_at, pay6_at, pay7_at]
  unfold grp act
  rfl

/-- The groups' amplitudes. -/
def hAmp : FVec Ideal S18432x80 .f32 :=
  multiReduction .maximumf [2] S18432x80 (absf (hGrp X W S)) 0xFF800000#32 reduces_S18432x80x128_S18432x80 (.inl rfl) rfl

theorem hAmp_at (r : Fin 18432) (g : Fin 80) : hAmp X W S (ix2 r g) = amp (grp (fX X) (fW W) (fS S) r g) := by
  rw [← funext fun z => hGrp_at X W S r g z]
  unfold hAmp
  generalize hGrp X W S = A
  pointwise []
  rfl

theorem pay10_eq : k0_pay10 (k0_pay13 X W S) (k0_pay14 X W S) (k0_pay15 X W S) = vExp (hAmp X W S) := by
  unfold k0_pay10 vExp hAmp hGrp; rfl

theorem pay11_at (r : Fin 18432) (g : Fin 80) :
    k0_pay11 (k0_pay13 X W S) (k0_pay14 X W S) (k0_pay15 X W S) (ix2 r g) = outS (fX X) (fW W) (fS S) r g := by
  unfold k0_pay11 outS scale
  rw [pay10_eq, ← hAmp_at]
  exact vScaleE_at _ _

theorem pay12_eq : k0_pay12 (k0_pay13 X W S) (k0_pay14 X W S) (k0_pay15 X W S) =
    shapeCast S18432x10240 (vClip (mulf (hGrp X W S) (broadcastTo S18432x80x128 (shapeCast S18432x80x1
      (vInvE (k0_pay10 (k0_pay13 X W S) (k0_pay14 X W S) (k0_pay15 X W S))) shapeCasts_S18432x80_S18432x80x1)
      broadcasts_S18432x80x1_S18432x80x128))) shapeCasts_S18432x80x128_S18432x10240 := by
  unfold k0_pay12 vClip vInvE hGrp; rfl

theorem spread_at (v : FVec Ideal S18432x80 .f32) (r : Fin 18432) (g : Fin 80) (z : Fin 128) :
    broadcastTo S18432x80x128 (shapeCast S18432x80x1 v shapeCasts_S18432x80_S18432x80x1) broadcasts_S18432x80x1_S18432x80x128 (ix3 r g z) =
      v (ix2 r g) := by
  pointwise []

theorem pay12_at (r : Fin 18432) (n : Fin 10240) :
    k0_pay12 (k0_pay13 X W S) (k0_pay14 X W S) (k0_pay15 X W S) (ix2 r n) = outC (fX X) (fW W) (fS S) r n := by
  rw [pay12_eq, pay10_eq, join_at _ r ⟨n.val / 128, by omega⟩ ⟨n.val % 128, by omega⟩ n (by show n.val = 128 * (n.val / 128) + n.val % 128; omega),
    vClip_at]
  unfold outC codes
  rw [← hAmp_at, ← vInvE_at (hAmp X W S), ← hGrp_at,
    ← spread_at (vInvE (vExp (hAmp X W S))) r ⟨n.val / 128, by omega⟩ ⟨n.val % 128, by omega⟩]
  rfl

end Cert.ReferenceIdeal.Gen

end
-- ==== Proof.RefValue.lean ====
/- The reference's four results after the run, as functions of its three operands. -/
module

public import proofs.«01_k».proof.Proof.RefPay
public import Idealize.ShloMosaic.Lib.Pipeline.Value

@[expose] public section

set_option maxRecDepth 16384

noncomputable section

namespace Cert.ReferenceIdeal.Gen

open Idealize.ShloMosaic Idealize.ShloMosaic.TcCoe Idealize.SL.Sem
open Idealize.ShloMosaic.Pipeline (Dat Cfg Window)
open Cert.Scale Cert.Spec

variable (m : (ℓ : Loc nD τ sig) → Buf (Elt Ideal) ℓ) (ρ : Dev nD → PrngReg)

/-- The operands as functions of row and column: the input, -/
def opX (c : Dev nD) : Fin 18432 → Fin 2560 → EReal := fX (V m c main_v1)
/-- the weights, -/
def opW (c : Dev nD) : Fin 2560 → Fin 20480 → EReal := fW (V m c main_arg1)
/-- and their scales. -/
def opS (c : Dev nD) : Fin 20480 → EReal := fS (V m c main_v2)

theorem hz : (![0, 0] : Fin 2 → ℕ) = fun _ => 0 := funext fun a => by fin_cases a <;> rfl

/-! ## The windows' blocks are their arrays -/

theorem iblk0_eq (c : Dev nD) (t : Fin cfg0.N) : (iblk m c 0 t : Vec Ideal S18432x2560 .f32) = V m c main_v1 := by
  funext y
  show (V m c main_v1 : Vec Ideal S18432x2560 .f32) _ = (V m c main_v1 : Vec Ideal S18432x2560 .f32) _
  congr 1
  exact Shape.idx_ext₂ (by show 0 * 18432 + 1 * (y 0).val = (y 0).val; omega) (by show 0 * 2560 + 1 * (y 1).val = (y 1).val; omega)

theorem iblk1_eq (c : Dev nD) (t : Fin cfg0.N) : (iblk m c 1 t : Vec Ideal S2560x20480 .fp8e4m3) = V m c main_arg1 := by
  funext y
  show (V m c main_arg1 : Vec Ideal S2560x20480 .fp8e4m3) _ = (V m c main_arg1 : Vec Ideal S2560x20480 .fp8e4m3) _
  congr 1
  exact Shape.idx_ext₂ (by show 0 * 2560 + 1 * (y 0).val = (y 0).val; omega) (by show 0 * 20480 + 1 * (y 1).val = (y 1).val; omega)

theorem iblk2_eq (c : Dev nD) (t : Fin cfg0.N) : (iblk m c 2 t : Vec Ideal S1x20480 .f32) = V m c main_v2 := by
  funext y
  show (V m c main_v2 : Vec Ideal S1x20480 .f32) _ = (V m c main_v2 : Vec Ideal S1x20480 .f32) _
  congr 1
  exact Shape.idx_ext₂ (by show 0 * 1 + 1 * (y 0).val = (y 0).val; omega) (by show 0 * 20480 + 1 * (y 1).val = (y 1).val; omega)

/-! ## What the body leaves, in the operands -/

/-- The codes of the activations, -/
def G3 (c : Dev nD) : Buf (Elt Ideal) ((c : Thread nD τ).loc main_v3_0) :=
  (fun i => outC (opX m c) (opW m c) (opS m c) (i 0) (i 1) : Vec Ideal S18432x10240 .fp8e4m3)
/-- their scales, -/
def G4 (c : Dev nD) : Buf (Elt Ideal) ((c : Thread nD τ).loc main_v3_1) :=
  (fun i => outS (opX m c) (opW m c) (opS m c) (i 0) (i 1) : Vec Ideal S18432x80 .f32)
/-- the codes of the input, -/
def G5 (c : Dev nD) : Buf (Elt Ideal) ((c : Thread nD τ).loc main_v3_2) :=
  (fun i => codes (opX m c (i 0)) (i 1) : Vec Ideal S18432x2560 .fp8e4m3)
/-- and their scales. -/
def G6 (c : Dev nD) : Buf (Elt Ideal) ((c : Thread nD τ).loc main_v3_3) :=
  (fun i => scale (opX m c (i 0)) : Vec Ideal S18432x1 .f32)

theorem out3_at (X : Vec Ideal S18432x2560 .f32) (W : Vec Ideal S2560x20480 .fp8e4m3) (S : Vec Ideal S1x20480 .f32) (r : Fin 18432) (n : Fin 10240) :
    out0_3 X W S (ix2 r n) = outC (fX X) (fW W) (fS S) r n := by
  unfold out0_3
  rw [View.canon_unit_zero hz]
  exact pay12_at X W S r n

theorem out4_at (X : Vec Ideal S18432x2560 .f32) (W : Vec Ideal S2560x20480 .fp8e4m3) (S : Vec Ideal S1x20480 .f32) (r : Fin 18432) (n : Fin 80) :
    out0_4 X W S (ix2 r n) = outS (fX X) (fW W) (fS S) r n := by
  unfold out0_4
  rw [View.canon_unit_zero hz]
  exact pay11_at X W S r n

theorem out5_at (X : Vec Ideal S18432x2560 .f32) (W : Vec Ideal S2560x20480 .fp8e4m3) (S : Vec Ideal S1x20480 .f32) (r : Fin 18432) (n : Fin 2560) :
    out0_5 X W S (ix2 r n) = codes (fX X r) n := by
  unfold out0_5
  rw [View.canon_unit_zero hz, View.ld_unit_zero hz]
  exact pay4_at X r n

theorem out6_at (X : Vec Ideal S18432x2560 .f32) (W : Vec Ideal S2560x20480 .fp8e4m3) (S : Vec Ideal S1x20480 .f32) (r : Fin 18432) (n : Fin 1) :
    out0_6 X W S (ix2 r n) = scale (fX X r) := by
  unfold out0_6
  rw [View.canon_unit_zero hz, View.ld_unit_zero hz]
  exact pay3_at X r n

theorem G3_at (c : Dev nD) (r : Fin 18432) (q : Fin 10240) :
    (G3 m c : Vec Ideal S18432x10240 .fp8e4m3) (ix2 r q) = outC (opX m c) (opW m c) (opS m c) r q := by unfold G3; rfl

theorem cut3 (v : Vec Ideal S18432x10240 .fp8e4m3) (t : Fin cfg0.N) (y : S18432x10240.Idx) :
    (cfg0.win 3).cut (grid0.coords t) v y = v y := rfl

theorem read3 (G : Vec Ideal S18432x10240 .fp8e4m3) (t : Fin cfg0.N) (y : S18432x10240.Idx) :
    (win0_3.blk t).view.read (Elt Ideal) G y = G y := by
  show G _ = G _
  congr 1
  exact Shape.idx_ext₂ (by show 0 * 18432 + 1 * (y 0).val = (y 0).val; omega) (by show 0 * 10240 + 1 * (y 1).val = (y 1).val; omega)

theorem flushed3 (c : Dev nD) (t : Fin cfg0.N) :
    (dats m 0 c).flushed 3 t = (win0_3.blk t).view.read (Elt Ideal) (G3 m c) := by
  show (cfg0.win 3).cut (grid0.coords t) ((dats m 0 c).after 3 t) = _
  rw [after0_3, iblk0_eq, iblk1_eq, iblk2_eq]
  funext y
  have e : out0_3 (V m c main_v1 : Vec Ideal S18432x2560 .f32) (V m c main_arg1 : Vec Ideal S2560x20480 .fp8e4m3)
      (V m c main_v2 : Vec Ideal S1x20480 .f32) y = G3 m c y := by
    rw [eq_ix2 (n0 := 18432) (n1 := 10240) y]
    exact (out3_at _ _ _ _ _).trans (G3_at m c _ _).symm
  exact (cut3 _ t y).trans (e.trans (read3 (G3 m c) t y).symm)

theorem cover3' (i : S18432x10240.Idx) :
    ∃ t : Fin cfg0.N, (cfg0.win 3).flush t = true ∧ i ∈ ((cfg0.win 3).blk t).view.set := by
  have h0 : (i 0).val < 18432 := (i 0).isLt
  have h1 : (i 1).val < 10240 := (i 1).isLt
  refine ⟨t0_0, flush0_3 _, ?_⟩
  show i ∈ ((View.whole main_v3_0).slice (win0_3.rect t0_0)).set
  rw [View.set_slice_whole, Rect.mem_set_unit]
  refine Fin.forall_fin_two.mpr ⟨?_, ?_⟩
  · show 0 * 18432 ≤ (i 0).val ∧ (i 0).val < 0 * 18432 + 18432
    omega
  · show 0 * 10240 ≤ (i 1).val ∧ (i 1).val < 0 * 10240 + 10240
    omega

theorem G4_at (c : Dev nD) (r : Fin 18432) (q : Fin 80) :
    (G4 m c : Vec Ideal S18432x80 .f32) (ix2 r q) = outS (opX m c) (opW m c) (opS m c) r q := by unfold G4; rfl

theorem cut4 (v : Vec Ideal S18432x80 .f32) (t : Fin cfg0.N) (y : S18432x80.Idx) :
    (cfg0.win 4).cut (grid0.coords t) v y = v y := rfl

theorem read4 (G : Vec Ideal S18432x80 .f32) (t : Fin cfg0.N) (y : S18432x80.Idx) :
    (win0_4.blk t).view.read (Elt Ideal) G y = G y := by
  show G _ = G _
  congr 1
  exact Shape.idx_ext₂ (by show 0 * 18432 + 1 * (y 0).val = (y 0).val; omega) (by show 0 * 80 + 1 * (y 1).val = (y 1).val; omega)

theorem flushed4 (c : Dev nD) (t : Fin cfg0.N) :
    (dats m 0 c).flushed 4 t = (win0_4.blk t).view.read (Elt Ideal) (G4 m c) := by
  show (cfg0.win 4).cut (grid0.coords t) ((dats m 0 c).after 4 t) = _
  rw [after0_4, iblk0_eq, iblk1_eq, iblk2_eq]
  funext y
  have e : out0_4 (V m c main_v1 : Vec Ideal S18432x2560 .f32) (V m c main_arg1 : Vec Ideal S2560x20480 .fp8e4m3)
      (V m c main_v2 : Vec Ideal S1x20480 .f32) y = G4 m c y := by
    rw [eq_ix2 (n0 := 18432) (n1 := 80) y]
    exact (out4_at _ _ _ _ _).trans (G4_at m c _ _).symm
  exact (cut4 _ t y).trans (e.trans (read4 (G4 m c) t y).symm)

theorem cover4' (i : S18432x80.Idx) :
    ∃ t : Fin cfg0.N, (cfg0.win 4).flush t = true ∧ i ∈ ((cfg0.win 4).blk t).view.set := by
  have h0 : (i 0).val < 18432 := (i 0).isLt
  have h1 : (i 1).val < 80 := (i 1).isLt
  refine ⟨t0_0, flush0_4 _, ?_⟩
  show i ∈ ((View.whole main_v3_1).slice (win0_4.rect t0_0)).set
  rw [View.set_slice_whole, Rect.mem_set_unit]
  refine Fin.forall_fin_two.mpr ⟨?_, ?_⟩
  · show 0 * 18432 ≤ (i 0).val ∧ (i 0).val < 0 * 18432 + 18432
    omega
  · show 0 * 80 ≤ (i 1).val ∧ (i 1).val < 0 * 80 + 80
    omega

theorem G5_at (c : Dev nD) (r : Fin 18432) (q : Fin 2560) :
    (G5 m c : Vec Ideal S18432x2560 .fp8e4m3) (ix2 r q) = codes (opX m c r) q := by unfold G5; rfl

theorem cut5 (v : Vec Ideal S18432x2560 .fp8e4m3) (t : Fin cfg0.N) (y : S18432x2560.Idx) :
    (cfg0.win 5).cut (grid0.coords t) v y = v y := rfl

theorem read5 (G : Vec Ideal S18432x2560 .fp8e4m3) (t : Fin cfg0.N) (y : S18432x2560.Idx) :
    (win0_5.blk t).view.read (Elt Ideal) G y = G y := by
  show G _ = G _
  congr 1
  exact Shape.idx_ext₂ (by show 0 * 18432 + 1 * (y 0).val = (y 0).val; omega) (by show 0 * 2560 + 1 * (y 1).val = (y 1).val; omega)

theorem flushed5 (c : Dev nD) (t : Fin cfg0.N) :
    (dats m 0 c).flushed 5 t = (win0_5.blk t).view.read (Elt Ideal) (G5 m c) := by
  show (cfg0.win 5).cut (grid0.coords t) ((dats m 0 c).after 5 t) = _
  rw [after0_5, iblk0_eq, iblk1_eq, iblk2_eq]
  funext y
  have e : out0_5 (V m c main_v1 : Vec Ideal S18432x2560 .f32) (V m c main_arg1 : Vec Ideal S2560x20480 .fp8e4m3)
      (V m c main_v2 : Vec Ideal S1x20480 .f32) y = G5 m c y := by
    rw [eq_ix2 (n0 := 18432) (n1 := 2560) y]
    exact (out5_at _ _ _ _ _).trans (G5_at m c _ _).symm
  exact (cut5 _ t y).trans (e.trans (read5 (G5 m c) t y).symm)

theorem cover5' (i : S18432x2560.Idx) :
    ∃ t : Fin cfg0.N, (cfg0.win 5).flush t = true ∧ i ∈ ((cfg0.win 5).blk t).view.set := by
  have h0 : (i 0).val < 18432 := (i 0).isLt
  have h1 : (i 1).val < 2560 := (i 1).isLt
  refine ⟨t0_0, flush0_5 _, ?_⟩
  show i ∈ ((View.whole main_v3_2).slice (win0_5.rect t0_0)).set
  rw [View.set_slice_whole, Rect.mem_set_unit]
  refine Fin.forall_fin_two.mpr ⟨?_, ?_⟩
  · show 0 * 18432 ≤ (i 0).val ∧ (i 0).val < 0 * 18432 + 18432
    omega
  · show 0 * 2560 ≤ (i 1).val ∧ (i 1).val < 0 * 2560 + 2560
    omega

theorem G6_at (c : Dev nD) (r : Fin 18432) (q : Fin 1) :
    (G6 m c : Vec Ideal S18432x1 .f32) (ix2 r q) = scale (opX m c r) := by unfold G6; rfl

theorem cut6 (v : Vec Ideal S18432x1 .f32) (t : Fin cfg0.N) (y : S18432x1.Idx) :
    (cfg0.win 6).cut (grid0.coords t) v y = v y := rfl

theorem read6 (G : Vec Ideal S18432x1 .f32) (t : Fin cfg0.N) (y : S18432x1.Idx) :
    (win0_6.blk t).view.read (Elt Ideal) G y = G y := by
  show G _ = G _
  congr 1
  exact Shape.idx_ext₂ (by show 0 * 18432 + 1 * (y 0).val = (y 0).val; omega) (by show 0 * 1 + 1 * (y 1).val = (y 1).val; omega)

theorem flushed6 (c : Dev nD) (t : Fin cfg0.N) :
    (dats m 0 c).flushed 6 t = (win0_6.blk t).view.read (Elt Ideal) (G6 m c) := by
  show (cfg0.win 6).cut (grid0.coords t) ((dats m 0 c).after 6 t) = _
  rw [after0_6, iblk0_eq, iblk1_eq, iblk2_eq]
  funext y
  have e : out0_6 (V m c main_v1 : Vec Ideal S18432x2560 .f32) (V m c main_arg1 : Vec Ideal S2560x20480 .fp8e4m3)
      (V m c main_v2 : Vec Ideal S1x20480 .f32) y = G6 m c y := by
    rw [eq_ix2 (n0 := 18432) (n1 := 1) y]
    exact (out6_at _ _ _ _ _).trans (G6_at m c _ _).symm
  exact (cut6 _ t y).trans (e.trans (read6 (G6 m c) t y).symm)

theorem cover6' (i : S18432x1.Idx) :
    ∃ t : Fin cfg0.N, (cfg0.win 6).flush t = true ∧ i ∈ ((cfg0.win 6).blk t).view.set := by
  have h0 : (i 0).val < 18432 := (i 0).isLt
  have h1 : (i 1).val < 1 := (i 1).isLt
  refine ⟨t0_0, flush0_6 _, ?_⟩
  show i ∈ ((View.whole main_v3_3).slice (win0_6.rect t0_0)).set
  rw [View.set_slice_whole, Rect.mem_set_unit]
  refine Fin.forall_fin_two.mpr ⟨?_, ?_⟩
  · show 0 * 18432 ≤ (i 0).val ∧ (i 0).val < 0 * 18432 + 18432
    omega
  · show 0 * 1 ≤ (i 1).val ∧ (i 1).val < 0 * 1 + 1
    omega

/-- The run, read at the results and the arguments. -/
theorem run_values : θ_run defs (onTc (τ := τ) (main (F := Ideal))) ⟨m, fun _ => 0, ρ⟩ (fun r => ∀ c : Dev nD,
      r.2.mem ((c.tc : Thread nD τ).loc main_v3_0) = G3 m c
      ∧ r.2.mem ((c.tc : Thread nD τ).loc main_v3_1) = G4 m c
      ∧ r.2.mem ((c.tc : Thread nD τ).loc main_v3_2) = G5 m c
      ∧ r.2.mem ((c.tc : Thread nD τ).loc main_v3_3) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).1 3).trans ((dats m 0 c).arrAt_eq_of_cover 3 (G3 m c) (fun t _ => flushed3 m c t) cover3'),
      ((h.1 c).1 4).trans ((dats m 0 c).arrAt_eq_of_cover 4 (G4 m c) (fun t _ => flushed4 m c t) cover4'),
      ((h.1 c).1 5).trans ((dats m 0 c).arrAt_eq_of_cover 5 (G5 m c) (fun t _ => flushed5 m c t) cover5'),
      ((h.1 c).1 6).trans ((dats m 0 c).arrAt_eq_of_cover 6 (G6 m c) (fun t _ => flushed6 m c t) cover6'),
      h.2 c⟩)
    (θ_run_and (run_main m ρ) (unchanged m ρ))

end Cert.ReferenceIdeal.Gen

end
-- ==== Proof.Agree.lean ====
/- The operands of the two pipelines agree, and with them the results. -/
module

public import proofs.«01_k».proof.Proof.Final
public import proofs.«01_k».proof.Proof.RefValue
public import Idealize.ShloMosaic.Lib.Claim

@[expose] public section

set_option maxRecDepth 16384

noncomputable section

open Idealize.ShloMosaic Idealize.ShloMosaic.TcCoe Idealize.SL.Sem

namespace Cert.KernelIdeal.Gen

variable (m : (ℓ : Loc nD τ sig) → Buf (Elt Ideal) ℓ)

theorem V_main_v1 (c : Dev nD) : (V m c main_v1 : Vec Ideal S18432x2560 .bf16) =
    shapeCast S18432x2560 (m ((c : Thread nD τ).loc main_arg0) : Vec Ideal S6x3072x2560 .bf16) shapeCasts_S6x3072x2560_S18432x2560 := by
  unfold_abbrev_sides
  after_results
  rfl

theorem V_main_v0 (c : Dev nD) : (V m c main_v0 : Vec Ideal S1x20480 .f32) =
    shapeCast S1x20480 (m ((c : Thread nD τ).loc main_arg2) : Vec Ideal S20480 .f32) shapeCasts_S20480_S1x20480 := by
  unfold_abbrev_sides
  after_results
  rfl

end Cert.KernelIdeal.Gen

namespace Cert.ReferenceIdeal.Gen

variable (m : (ℓ : Loc nD τ sig) → Buf (Elt Ideal) ℓ)

theorem V_main_v1 (c : Dev nD) : (V m c main_v1 : Vec Ideal S18432x2560 .f32) =
    (shapeCast S18432x2560 (extf (F := Ideal) .f32 (m ((c : Thread nD τ).loc main_arg0) : FVec Ideal S6x3072x2560 .bf16) bitsLt_bf16_f32 : FVec Ideal S6x3072x2560 .f32)
      shapeCasts_S6x3072x2560_S18432x2560 : Vec Ideal S18432x2560 .f32) := by
  unfold_abbrev_sides
  after_results
  rfl

theorem V_main_v2 (c : Dev nD) : (V m c main_v2 : Vec Ideal S1x20480 .f32) =
    shapeCast S1x20480 (m ((c : Thread nD τ).loc main_arg2) : Vec Ideal S20480 .f32) shapeCasts_S20480_S1x20480 := by
  unfold_abbrev_sides
  after_results
  rfl

end Cert.ReferenceIdeal.Gen

/-! ## The agreement -/

namespace Cert

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The launches' arguments agree on a device. -/
def Same (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)

theorem opX_same (c : Dev KernelIdeal.nD) (h : Same m m' c) : ReferenceIdeal.Gen.opX m' c = KernelIdeal.Gen.opX m c := by
  funext r k
  unfold ReferenceIdeal.Gen.opX ReferenceIdeal.Gen.fX KernelIdeal.Gen.opX
  rw [ReferenceIdeal.Gen.V_main_v1, KernelIdeal.Gen.V_main_v1]
  exact congrArg (fun v : Vec Ideal KernelIdeal.S6x3072x2560 .bf16 =>
    shapeCast KernelIdeal.S18432x2560 v KernelIdeal.Gen.facts.shapeCasts_S6x3072x2560_S18432x2560 (ix2 r k)) h.1

theorem opW_same (c : Dev KernelIdeal.nD) (h : Same m m' c) : ReferenceIdeal.Gen.opW m' c = KernelIdeal.Gen.opW m c := by
  funext k n
  unfold ReferenceIdeal.Gen.opW ReferenceIdeal.Gen.fW KernelIdeal.Gen.opW
  rw [ReferenceIdeal.Gen.V_main_arg1, KernelIdeal.Gen.V_main_arg1]
  exact congrArg (fun v : Vec Ideal KernelIdeal.S2560x20480 .fp8e4m3 => v (ix2 k n)) h.2.1

theorem opS_same (c : Dev KernelIdeal.nD) (h : Same m m' c) : ReferenceIdeal.Gen.opS m' c = KernelIdeal.Gen.opS m c := by
  funext n
  unfold ReferenceIdeal.Gen.opS ReferenceIdeal.Gen.fS KernelIdeal.Gen.opS
  rw [ReferenceIdeal.Gen.V_main_v2, KernelIdeal.Gen.V_main_v0]
  exact congrArg (fun v : Vec Ideal KernelIdeal.S20480 .f32 =>
    shapeCast KernelIdeal.S1x20480 v KernelIdeal.Gen.facts.shapeCasts_S20480_S1x20480 (ix2 0 n)) h.2.2

theorem codesH_same (c : Dev KernelIdeal.nD) (h : Same m m' c) : ReferenceIdeal.Gen.G3 m' c = KernelIdeal.Gen.G5 m c := by
  unfold ReferenceIdeal.Gen.G3 KernelIdeal.Gen.G5
  rw [opX_same m m' c h, opW_same m m' c h, opS_same m m' c h]

theorem scalesH_same (c : Dev KernelIdeal.nD) (h : Same m m' c) : ReferenceIdeal.Gen.G4 m' c = KernelIdeal.Gen.G6 m c := by
  unfold ReferenceIdeal.Gen.G4 KernelIdeal.Gen.G6
  rw [opX_same m m' c h, opW_same m m' c h, opS_same m m' c h]

theorem codesX_same (c : Dev KernelIdeal.nD) (h : Same m m' c) : ReferenceIdeal.Gen.G5 m' c = KernelIdeal.Gen.G7 m c := by
  unfold ReferenceIdeal.Gen.G5 KernelIdeal.Gen.G7
  rw [opX_same m m' c h]

theorem scalesX_same (c : Dev KernelIdeal.nD) (h : Same m m' c) : ReferenceIdeal.Gen.G6 m' c = KernelIdeal.Gen.G8 m c := by
  unfold ReferenceIdeal.Gen.G6 KernelIdeal.Gen.G8
  rw [opX_same m m' c h]

end Cert

end
-- ==== Proof.lean ====
module

public import proofs.«01_k».proof.Defs
public import proofs.«01_k».proof.Proof.Gen.Kernel.Frame
public import proofs.«01_k».proof.Proof.Gen.Kernel.Skeleton
public import proofs.«01_k».proof.Proof.Gen.Kernel.Loops
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.ReferenceIdeal.Frame
public import proofs.«01_k».proof.Proof.KFrame
public import proofs.«01_k».proof.Proof.Agree

@[expose] public section

open Idealize.ShloMosaic Idealize.SL.Sem

/-- Both runs leave the kernel's values, in every result. -/
theorem Cert.Proof.algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Gen.G5 m c, fun c => Cert.KernelIdeal.Gen.G6 m c, fun c => Cert.KernelIdeal.Gen.G7 m c,
    fun c => Cert.KernelIdeal.Gen.G8 m c, Cert.KernelIdeal.Gen.run_values m ρ, ?_⟩
  exact (θ_run _ _ _).mono (fun _ h c => ⟨(h c).1.trans (Cert.codesH_same m m' c (hagree c)),
    (h c).2.1.trans (Cert.scalesH_same m m' c (hagree c)), (h c).2.2.1.trans (Cert.codesX_same m m' c (hagree c)),
    (h c).2.2.2.1.trans (Cert.scalesX_same m m' c (hagree c)), (h c).2.2.2.2⟩) (Cert.ReferenceIdeal.Gen.run_values m' ρ')

theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Proof.algebraic⟩
